-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_numbers_finite [hPre_numbers_finite : Cert.Pre_numbers_finite.Facts] (m : (ℓ : Loc Cert.KernelIdeal.nD Cert.KernelIdeal.τ Cert.KernelIdeal.sig) → Buf (Elt Ideal) ℓ) : Prop :=
  ∀ c : Dev Cert.KernelIdeal.nD,
    (Cert.Pre_numbers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_numbers_finite [hPre_numbers_finite : Cert.Pre_numbers_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_numbers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables_laid : Cert.Pre_tables_laid.Facts] (m : (ℓ : Loc Cert.Kernel2.nD Cert.Kernel2.τ Cert.Kernel2.sig) → Buf (Elt Bits) ℓ) : Prop :=
  ∀ c : Dev Cert.Kernel2.nD,
    (Cert.Pre_tables_laid.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_laid : Cert.Pre_tables_laid.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_laid.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_laid [hPre_tables_laid : Cert.Pre_tables_laid.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_laid.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_tables_down : Cert.Pre_tables_down.Facts] (m : (ℓ : Loc Cert.Kernel3.nD Cert.Kernel3.τ Cert.Kernel3.sig) → Buf (Elt Bits) ℓ) : Prop :=
  ∀ c : Dev Cert.Kernel3.nD,
    (Cert.Pre_tables_down.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_tables_down : Cert.Pre_tables_down.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_down [hPre_tables_down : Cert.Pre_tables_down.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_down.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_numbers_finite [hKernelIdeal : Cert.KernelIdeal.Facts] [hPre_numbers_finite : Cert.Pre_numbers_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_numbers_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_numbers_finite [hReferenceIdeal : Cert.ReferenceIdeal.Facts] [hPre_numbers_finite : Cert.Pre_numbers_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_numbers_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables_laid : Cert.Pre_tables_laid.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_laid : Cert.Pre_tables_laid.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_laid [hReference2Ideal : Cert.Reference2Ideal.Facts] [hPre_tables_laid : Cert.Pre_tables_laid.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_laid m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_tables_down : Cert.Pre_tables_down.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tables_down : Cert.Pre_tables_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_tables_down [hReference3Ideal : Cert.Reference3Ideal.Facts] [hPre_tables_down : Cert.Pre_tables_down.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_down m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_numbers_finite [hKernelIdeal : Cert.KernelIdeal.Facts] [hReferenceIdeal : Cert.ReferenceIdeal.Facts] [hPre_numbers_finite : Cert.Pre_numbers_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_numbers_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_rows_used [hKernel2Ideal : Cert.Kernel2Ideal.Facts] [hReference2Ideal : Cert.Reference2Ideal.Facts] [hPre_tables_laid : Cert.Pre_tables_laid.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![24576, 7168]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![24576, 7168]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v101) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_on_rows_down [hKernel3Ideal : Cert.Kernel3Ideal.Facts] [hReference3Ideal : Cert.Reference3Ideal.Facts] [hPre_tables_down : Cert.Pre_tables_down.Facts] [hOn_rows_down : Cert.On_rows_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![24576, 2048]⟩ : Shape).Idx, (Cert.On_rows_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![24576, 2048]⟩ : Shape).Idx, (Cert.On_rows_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v60) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_numbers_finite : Cert.Pre_numbers_finite.Facts) (hPre_tables_laid : Cert.Pre_tables_laid.Facts) (hPre_tables_down : Cert.Pre_tables_down.Facts) (hOn_rows_used : Cert.On_rows_used.Facts) (hOn_rows_down : Cert.On_rows_down.Facts),
    quiescent_Kernel (hKernel := hKernel)
    ∧ quiescent_KernelIdeal (hKernelIdeal := hKernelIdeal)
    ∧ quiescent_KernelIdeal_pre_numbers_finite (hKernelIdeal := hKernelIdeal) (hPre_numbers_finite := hPre_numbers_finite)
    ∧ quiescent_ReferenceIdeal (hReferenceIdeal := hReferenceIdeal)
    ∧ quiescent_ReferenceIdeal_pre_numbers_finite (hReferenceIdeal := hReferenceIdeal) (hPre_numbers_finite := hPre_numbers_finite)
    ∧ quiescent_Kernel2 (hKernel2 := hKernel2) (hPre_tables_laid := hPre_tables_laid)
    ∧ quiescent_Kernel2Ideal (hKernel2Ideal := hKernel2Ideal) (hPre_tables_laid := hPre_tables_laid)
    ∧ quiescent_Reference2Ideal (hReference2Ideal := hReference2Ideal)
    ∧ quiescent_Reference2Ideal_pre_tables_laid (hReference2Ideal := hReference2Ideal) (hPre_tables_laid := hPre_tables_laid)
    ∧ quiescent_Kernel3 (hKernel3 := hKernel3) (hPre_tables_down := hPre_tables_down)
    ∧ quiescent_Kernel3Ideal (hKernel3Ideal := hKernel3Ideal) (hPre_tables_down := hPre_tables_down)
    ∧ quiescent_Reference3Ideal (hReference3Ideal := hReference3Ideal)
    ∧ quiescent_Reference3Ideal_pre_tables_down (hReference3Ideal := hReference3Ideal) (hPre_tables_down := hPre_tables_down)
    ∧ preserves_Kernel_KernelIdeal
    ∧ algebraic_KernelIdeal_ReferenceIdeal_pre_numbers_finite (hKernelIdeal := hKernelIdeal) (hReferenceIdeal := hReferenceIdeal) (hPre_numbers_finite := hPre_numbers_finite)
    ∧ preserves_Kernel2_Kernel2Ideal
    ∧ algebraic_Kernel2Ideal_Reference2Ideal_on_rows_used (hKernel2Ideal := hKernel2Ideal) (hReference2Ideal := hReference2Ideal) (hPre_tables_laid := hPre_tables_laid) (hOn_rows_used := hOn_rows_used)
    ∧ preserves_Kernel3_Kernel3Ideal
    ∧ algebraic_Kernel3Ideal_Reference3Ideal_on_rows_down (hKernel3Ideal := hKernel3Ideal) (hReference3Ideal := hReference3Ideal) (hPre_tables_down := hPre_tables_down) (hOn_rows_down := hOn_rows_down)
-- ==== On_rows_down.lean ====
abbrev S24576x7168 : Shape := ⟨2, ![24576, 7168]⟩
abbrev S1x8x7168x2048 : Shape := ⟨4, ![1, 8, 7168, 2048]⟩
abbrev S24 : Shape := ⟨1, ![24]⟩
abbrev S24x1024 : Shape := ⟨2, ![24, 1024]⟩
abbrev S24x1 : Shape := ⟨2, ![24, 1]⟩
abbrev S24576x1 : Shape := ⟨2, ![24576, 1]⟩
abbrev S24576x2048 : Shape := ⟨2, ![24576, 2048]⟩

class Facts : Prop where
  bcast_S24_S24x1_0 : S24.BroadcastsInDim S24x1 (![0] : Fin 1 → Fin S24x1.rank)
  bcast_S24x1_S24x1024_0_1 : S24x1.BroadcastsInDim S24x1024 (![0, 1] : Fin 2 → Fin S24x1024.rank)
  shapeCasts_S24x1024_S24576x1 : S24x1024.ShapeCasts S24576x1
  bcast_S24576x1_S24576x2048_0_1 : S24576x1.BroadcastsInDim S24576x2048 (![0, 1] : Fin 2 → Fin S24576x2048.rank)

variable [Facts]

def fn {F : FTy → Type} [FloatOps F] (main_arg0 : FVec F S24576x7168 .bf16) (main_arg1 : FVec F S1x8x7168x2048 .f32) (main_arg2 : IVec S24 32) (main_arg3 : IVec S24 32) (main_arg4 : IVec S24 32) : IVec S24576x2048 1 :=
  let main_v0 : IVec S24x1024 32 := iotaInDim S24x1024 32 1
  let main_v1 : IVec S24x1 32 := broadcastInDim S24x1 ![0] bcast_S24_S24x1_0 main_arg4
  let main_v2 : IVec S24x1024 32 := broadcastInDim S24x1024 ![0, 1] bcast_S24x1_S24x1024_0_1 main_v1
  let main_v3 : IVec S24x1024 1 := cmpi .slt main_v0 main_v2
  let main_v4 : IVec S24576x1 1 := shapeCast S24576x1 main_v3 shapeCasts_S24x1024_S24576x1
  let main_v5 : IVec S24576x2048 1 := broadcastInDim S24576x2048 ![0, 1] bcast_S24576x1_S24576x2048_0_1 main_v4
  main_v5
-- ==== On_rows_used.lean ====
abbrev S24576x2048 : Shape := ⟨2, ![24576, 2048]⟩
abbrev S1x8x2048x7168 : Shape := ⟨4, ![1, 8, 2048, 7168]⟩
abbrev S24 : Shape := ⟨1, ![24]⟩
abbrev S24x1024 : Shape := ⟨2, ![24, 1024]⟩
abbrev S24x1 : Shape := ⟨2, ![24, 1]⟩
abbrev S24576x1 : Shape := ⟨2, ![24576, 1]⟩
abbrev S24576x7168 : Shape := ⟨2, ![24576, 7168]⟩

class Facts : Prop where
  bcast_S24_S24x1_0 : S24.BroadcastsInDim S24x1 (![0] : Fin 1 → Fin S24x1.rank)
  bcast_S24x1_S24x1024_0_1 : S24x1.BroadcastsInDim S24x1024 (![0, 1] : Fin 2 → Fin S24x1024.rank)
  shapeCasts_S24x1024_S24576x1 : S24x1024.ShapeCasts S24576x1
  bcast_S24576x1_S24576x7168_0_1 : S24576x1.BroadcastsInDim S24576x7168 (![0, 1] : Fin 2 → Fin S24576x7168.rank)

variable [Facts]

def fn {F : FTy → Type} [FloatOps F] (main_arg0 : FVec F S24576x2048 .bf16) (main_arg1 : FVec F S1x8x2048x7168 .f32) (main_arg2 : FVec F S1x8x2048x7168 .f32) (main_arg3 : IVec S24 32) (main_arg4 : IVec S24 32) (main_arg5 : IVec S24 32) : IVec S24576x7168 1 :=
  let main_v0 : IVec S24x1024 32 := iotaInDim S24x1024 32 1
  let main_v1 : IVec S24x1 32 := broadcastInDim S24x1 ![0] bcast_S24_S24x1_0 main_arg5
  let main_v2 : IVec S24x1024 32 := broadcastInDim S24x1024 ![0, 1] bcast_S24x1_S24x1024_0_1 main_v1
  let main_v3 : IVec S24x1024 1 := cmpi .slt main_v0 main_v2
  let main_v4 : IVec S24576x1 1 := shapeCast S24576x1 main_v3 shapeCasts_S24x1024_S24576x1
  let main_v5 : IVec S24576x7168 1 := broadcastInDim S24576x7168 ![0, 1] bcast_S24576x1_S24576x7168_0_1 main_v4
  main_v5
-- ==== Pre_numbers_finite.lean ====
abbrev S8224x9216 : Shape := ⟨2, ![8224, 9216]⟩
abbrev S1024 : Shape := ⟨1, ![1024]⟩
abbrev S2x1024 : Shape := ⟨2, ![2, 1024]⟩
abbrev S2x32x8x128x128 : Shape := ⟨5, ![2, 32, 8, 128, 128]⟩
abbrev S32x3072 : Shape := ⟨2, ![32, 3072]⟩
abbrev S_ : Shape := ⟨0, ![]⟩
abbrev S1x32x8x128x128 : Shape := ⟨5, ![1, 32, 8, 128, 128]⟩
abbrev S32x8x128x128 : Shape := ⟨4, ![32, 8, 128, 128]⟩

class Facts : Prop where
  slices_S8224x9216_S32x3072_8192_1024 : S8224x9216.Slices ![8192, 1024] S32x3072
  bcast_S_S32x3072 : S_.BroadcastsInDim S32x3072 (![] : Fin 0 → Fin S32x3072.rank)
  reducesTo_S32x3072_S_d0_1 : S32x3072.ReducesTo [0, 1] S_
  h_S_ : 0 < S_.numel
  bcast_S_S1024 : S_.BroadcastsInDim S1024 (![] : Fin 0 → Fin S1024.rank)
  reducesTo_S1024_S_d0 : S1024.ReducesTo [0] S_
  slices_S2x32x8x128x128_S1x32x8x128x128_1_0_0_0_0 : S2x32x8x128x128.Slices ![1, 0, 0, 0, 0] S1x32x8x128x128
  shapeCasts_S1x32x8x128x128_S32x8x128x128 : S1x32x8x128x128.ShapeCasts S32x8x128x128
  bcast_S_S32x8x128x128 : S_.BroadcastsInDim S32x8x128x128 (![] : Fin 0 → Fin S32x8x128x128.rank)
  reducesTo_S32x8x128x128_S_d0_1_2_3 : S32x8x128x128.ReducesTo [0, 1, 2, 3] S_

variable [Facts]

def fn_part1 {F : FTy → Type} [FloatOps F] (main_v13 : IVec S_ 1) (main_v15 : FVec F S32x8x128x128 .f32) (main_v16 : FVec F S32x8x128x128 .f32) : IVec S_ 1 :=
  let main_v17 : IVec S32x8x128x128 1 := cmpf .ogt main_v15 main_v16
  let main_cst_5 : FVec F S_ .f32 := constant S_ .f32 0x7F800000#32
  let main_v18 : FVec F S32x8x128x128 .f32 := broadcastInDim S32x8x128x128 ![] bcast_S_S32x8x128x128 main_cst_5
  let main_v19 : IVec S32x8x128x128 1 := cmpf .olt main_v15 main_v18
  let main_v20 : IVec S32x8x128x128 1 := andi main_v17 main_v19
  let main_c_6 : IVec S_ 1 := constantI S_ 1 1#1
  let main_v21 : IVec S_ 1 := (fun x v => Host.reduce IntOp.andi x v reducesTo_S32x8x128x128_S_d0_1_2_3 h_S_) main_v20 main_c_6
  let main_v22 : IVec S_ 1 := andi main_v13 main_v21
  main_v22

def fn {F : FTy → Type} [FloatOps F] (main_arg0 : FVec F S8224x9216 .f32) (main_arg1 : FVec F S1024 .f32) (main_arg2 : FVec F S2x1024 .f32) (main_arg3 : FVec F S2x32x8x128x128 .f32) (main_arg4 : FVec F S2x32x8x128x128 .f32) : IVec S_ 1 :=
  let main_v0 : FVec F S32x3072 .f32 := (extractStridedSlice S32x3072 ![8192, 1024] · slices_S8224x9216_S32x3072_8192_1024) main_arg0
  let main_cst : FVec F S_ .f32 := constant S_ .f32 0xFF800000#32
  let main_v1 : FVec F S32x3072 .f32 := broadcastInDim S32x3072 ![] bcast_S_S32x3072 main_cst
  let main_v2 : IVec S32x3072 1 := cmpf .ogt main_v0 main_v1
  let main_cst_0 : FVec F S_ .f32 := constant S_ .f32 0x7F800000#32
  let main_v3 : FVec F S32x3072 .f32 := broadcastInDim S32x3072 ![] bcast_S_S32x3072 main_cst_0
  let main_v4 : IVec S32x3072 1 := cmpf .olt main_v0 main_v3
  let main_v5 : IVec S32x3072 1 := andi main_v2 main_v4
  let main_c : IVec S_ 1 := constantI S_ 1 1#1
  let main_v6 : IVec S_ 1 := (fun x v => Host.reduce IntOp.andi x v reducesTo_S32x3072_S_d0_1 h_S_) main_v5 main_c
  let main_cst_1 : FVec F S_ .f32 := constant S_ .f32 0xFF800000#32
  let main_v7 : FVec F S1024 .f32 := broadcastInDim S1024 ![] bcast_S_S1024 main_cst_1
  let main_v8 : IVec S1024 1 := cmpf .ogt main_arg1 main_v7
  let main_cst_2 : FVec F S_ .f32 := constant S_ .f32 0x7F800000#32
  let main_v9 : FVec F S1024 .f32 := broadcastInDim S1024 ![] bcast_S_S1024 main_cst_2
  let main_v10 : IVec S1024 1 := cmpf .olt main_arg1 main_v9
  let main_v11 : IVec S1024 1 := andi main_v8 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v6 main_v12
  let main_v14 : FVec F S1x32x8x128x128 .f32 := (extractStridedSlice S1x32x8x128x128 ![1, 0, 0, 0, 0] · slices_S2x32x8x128x128_S1x32x8x128x128_1_0_0_0_0) main_arg3
  let main_v15 : FVec F S32x8x128x128 .f32 := shapeCast S32x8x128x128 main_v14 shapeCasts_S1x32x8x128x128_S32x8x128x128
  let main_cst_4 : FVec F S_ .f32 := constant S_ .f32 0xFF800000#32
  let main_v16 : FVec F S32x8x128x128 .f32 := broadcastInDim S32x8x128x128 ![] bcast_S_S32x8x128x128 main_cst_4
  fn_part1 (F := F) main_v13 main_v15 main_v16
-- ==== Pre_tables_down.lean ====
abbrev S24576x7168 : Shape := ⟨2, ![24576, 7168]⟩
abbrev S1x8x7168x2048 : Shape := ⟨4, ![1, 8, 7168, 2048]⟩
abbrev S24 : Shape := ⟨1, ![24]⟩
abbrev S_ : Shape := ⟨0, ![]⟩
abbrev S1 : Shape := ⟨1, ![1]⟩
abbrev S23 : Shape := ⟨1, ![23]⟩

class Facts : Prop where
  bcast_S_S1 : S_.BroadcastsInDim S1 (![] : Fin 0 → Fin S1.rank)
  slices_S24_S23_0 : S24.Slices ![0] S23
  concatenates_S1_S23_S24_d0 : Shape.Concatenates [S1, S23] S24 0
  bcast_S_S24 : S_.BroadcastsInDim S24 (![] : Fin 0 → Fin S24.rank)
  reducesTo_S24_S_d0 : S24.ReducesTo [0] S_
  h_S_ : 0 < S_.numel

variable [Facts]

def fn_part1 {F : FTy → Type} [FloatOps F] (main_arg2 : IVec S24 32) (main_arg3 : IVec S24 32) (main_v2 : IVec S24 32) (main_v15 : IVec S_ 1) (main_c_6 : IVec S_ 32) : IVec S_ 1 :=
  let main_v16 : IVec S24 32 := broadcastInDim S24 ![] bcast_S_S24 main_c_6
  let main_v17 : IVec S24 1 := cmpi .eq main_arg3 main_v16
  let main_v18 : IVec S24 1 := cmpi .eq main_arg2 main_v2
  let main_v19 : IVec S24 1 := ori main_v17 main_v18
  let main_c_7 : IVec S_ 1 := constantI S_ 1 1#1
  let main_v20 : IVec S_ 1 := (fun x v => Host.reduce IntOp.andi x v reducesTo_S24_S_d0 h_S_) main_v19 main_c_7
  let main_v21 : IVec S_ 1 := andi main_v15 main_v20
  main_v21

def fn {F : FTy → Type} [FloatOps F] (main_arg0 : FVec F S24576x7168 .bf16) (main_arg1 : FVec F S1x8x7168x2048 .f32) (main_arg2 : IVec S24 32) (main_arg3 : IVec S24 32) (main_arg4 : IVec S24 32) : IVec S_ 1 :=
  let main_c : IVec S_ 32 := constantI S_ 32 4294967295#32
  let main_v0 : IVec S1 32 := broadcastInDim S1 ![] bcast_S_S1 main_c
  let main_v1 : IVec S23 32 := (extractStridedSlice S23 ![0] · slices_S24_S23_0) main_arg2
  let main_v2 : IVec S24 32 := (fun a b => concatenate S24 0 [⟨S1, a⟩, ⟨S23, b⟩] concatenates_S1_S23_S24_d0) main_v0 main_v1
  let main_c_0 : IVec S_ 32 := constantI S_ 32 0#32
  let main_v3 : IVec S24 32 := broadcastInDim S24 ![] bcast_S_S24 main_c_0
  let main_v4 : IVec S24 1 := cmpi .sge main_arg2 main_v3
  let main_c_1 : IVec S_ 32 := constantI S_ 32 8#32
  let main_v5 : IVec S24 32 := broadcastInDim S24 ![] bcast_S_S24 main_c_1
  let main_v6 : IVec S24 1 := cmpi .slt main_arg2 main_v5
  let main_v7 : IVec S24 1 := andi main_v4 main_v6
  let main_c_2 : IVec S_ 1 := constantI S_ 1 1#1
  let main_v8 : IVec S_ 1 := (fun x v => Host.reduce IntOp.andi x v reducesTo_S24_S_d0 h_S_) main_v7 main_c_2
  let main_c_3 : IVec S_ 32 := constantI S_ 32 0#32
  let main_v9 : IVec S24 32 := broadcastInDim S24 ![] bcast_S_S24 main_c_3
  let main_v10 : IVec S24 1 := cmpi .sge main_arg4 main_v9
  let main_c_4 : IVec S_ 32 := constantI S_ 32 1024#32
  let main_v11 : IVec S24 32 := broadcastInDim S24 ![] bcast_S_S24 main_c_4
  let main_v12 : IVec S24 1 := cmpi .sle main_arg4 main_v11
  let main_v13 : IVec S24 1 := andi main_v10 main_v12
  let main_c_5 : IVec S_ 1 := constantI S_ 1 1#1
  let main_v14 : IVec S_ 1 := (fun x v => Host.reduce IntOp.andi x v reducesTo_S24_S_d0 h_S_) main_v13 main_c_5
  let main_v15 : IVec S_ 1 := andi main_v8 main_v14
  let main_c_6 : IVec S_ 32 := constantI S_ 32 1#32
  fn_part1 (F := F) main_arg2 main_arg3 main_v2 main_v15 main_c_6
-- ==== Pre_tables_laid.lean ====
abbrev S24576x2048 : Shape := ⟨2, ![24576, 2048]⟩
abbrev S1x8x2048x7168 : Shape := ⟨4, ![1, 8, 2048, 7168]⟩
abbrev S24 : Shape := ⟨1, ![24]⟩
abbrev S_ : Shape := ⟨0, ![]⟩
abbrev S1 : Shape := ⟨1, ![1]⟩
abbrev S23 : Shape := ⟨1, ![23]⟩

class Facts : Prop where
  bcast_S_S1 : S_.BroadcastsInDim S1 (![] : Fin 0 → Fin S1.rank)
  slices_S24_S23_0 : S24.Slices ![0] S23
  concatenates_S1_S23_S24_d0 : Shape.Concatenates [S1, S23] S24 0
  bcast_S_S24 : S_.BroadcastsInDim S24 (![] : Fin 0 → Fin S24.rank)
  reducesTo_S24_S_d0 : S24.ReducesTo [0] S_
  h_S_ : 0 < S_.numel

variable [Facts]

def fn_part1 {F : FTy → Type} [FloatOps F] (main_arg3 : IVec S24 32) (main_arg4 : IVec S24 32) (main_v2 : IVec S24 32) (main_v15 : IVec S_ 1) (main_c_6 : IVec S_ 32) : IVec S_ 1 :=
  let main_v16 : IVec S24 32 := broadcastInDim S24 ![] bcast_S_S24 main_c_6
  let main_v17 : IVec S24 1 := cmpi .eq main_arg4 main_v16
  let main_v18 : IVec S24 1 := cmpi .eq main_arg3 main_v2
  let main_v19 : IVec S24 1 := ori main_v17 main_v18
  let main_c_7 : IVec S_ 1 := constantI S_ 1 1#1
  let main_v20 : IVec S_ 1 := (fun x v => Host.reduce IntOp.andi x v reducesTo_S24_S_d0 h_S_) main_v19 main_c_7
  let main_v21 : IVec S_ 1 := andi main_v15 main_v20
  main_v21

def fn {F : FTy → Type} [FloatOps F] (main_arg0 : FVec F S24576x2048 .bf16) (main_arg1 : FVec F S1x8x2048x7168 .f32) (main_arg2 : FVec F S1x8x2048x7168 .f32) (main_arg3 : IVec S24 32) (main_arg4 : IVec S24 32) (main_arg5 : IVec S24 32) : IVec S_ 1 :=
  let main_c : IVec S_ 32 := constantI S_ 32 4294967295#32
  let main_v0 : IVec S1 32 := broadcastInDim S1 ![] bcast_S_S1 main_c
  let main_v1 : IVec S23 32 := (extractStridedSlice S23 ![0] · slices_S24_S23_0) main_arg3
  let main_v2 : IVec S24 32 := (fun a b => concatenate S24 0 [⟨S1, a⟩, ⟨S23, b⟩] concatenates_S1_S23_S24_d0) main_v0 main_v1
  let main_c_0 : IVec S_ 32 := constantI S_ 32 0#32
  let main_v3 : IVec S24 32 := broadcastInDim S24 ![] bcast_S_S24 main_c_0
  let main_v4 : IVec S24 1 := cmpi .sge main_arg3 main_v3
  let main_c_1 : IVec S_ 32 := constantI S_ 32 8#32
  let main_v5 : IVec S24 32 := broadcastInDim S24 ![] bcast_S_S24 main_c_1
  let main_v6 : IVec S24 1 := cmpi .slt main_arg3 main_v5
  let main_v7 : IVec S24 1 := andi main_v4 main_v6
  let main_c_2 : IVec S_ 1 := constantI S_ 1 1#1
  let main_v8 : IVec S_ 1 := (fun x v => Host.reduce IntOp.andi x v reducesTo_S24_S_d0 h_S_) main_v7 main_c_2
  let main_c_3 : IVec S_ 32 := constantI S_ 32 0#32
  let main_v9 : IVec S24 32 := broadcastInDim S24 ![] bcast_S_S24 main_c_3
  let main_v10 : IVec S24 1 := cmpi .sge main_arg5 main_v9
  let main_c_4 : IVec S_ 32 := constantI S_ 32 1024#32
  let main_v11 : IVec S24 32 := broadcastInDim S24 ![] bcast_S_S24 main_c_4
  let main_v12 : IVec S24 1 := cmpi .sle main_arg5 main_v11
  let main_v13 : IVec S24 1 := andi main_v10 main_v12
  let main_c_5 : IVec S_ 1 := constantI S_ 1 1#1
  let main_v14 : IVec S_ 1 := (fun x v => Host.reduce IntOp.andi x v reducesTo_S24_S_d0 h_S_) main_v13 main_c_5
  let main_v15 : IVec S_ 1 := andi main_v8 main_v14
  let main_c_6 : IVec S_ 32 := constantI S_ 32 1#32
  fn_part1 (F := F) main_arg3 main_arg4 main_v2 main_v15 main_c_6
-- ==== Kernel.lean ====
abbrev S8224x9216 : Shape := ⟨2, ![8224, 9216]⟩
abbrev S1024 : Shape := ⟨1, ![1024]⟩
abbrev S2x1024 : Shape := ⟨2, ![2, 1024]⟩
abbrev S2x32x8x128x128 : Shape := ⟨5, ![2, 32, 8, 128, 128]⟩
abbrev S1x1024 : Shape := ⟨2, ![1, 1024]⟩
abbrev S8x1x128 : Shape := ⟨3, ![8, 1, 128]⟩
abbrev S32x1024 : Shape := ⟨2, ![32, 1024]⟩
abbrev S32x128 : Shape := ⟨2, ![32, 128]⟩
abbrev S1x1x128 : Shape := ⟨3, ![1, 1, 128]⟩
abbrev S1x32x1x128x128 : Shape := ⟨5, ![1, 32, 1, 128, 128]⟩
abbrev S1x128 : Shape := ⟨2, ![1, 128]⟩
abbrev S96x128 : Shape := ⟨2, ![96, 128]⟩
abbrev S128x128 : Shape := ⟨2, ![128, 128]⟩
abbrev S128x1 : Shape := ⟨2, ![128, 1]⟩
abbrev S1x1x1x128x128 : Shape := ⟨5, ![1, 1, 1, 128, 128]⟩
abbrev S128 : Shape := ⟨1, ![128]⟩
abbrev S32 : Shape := ⟨1, ![32]⟩
abbrev S32x1 : Shape := ⟨2, ![32, 1]⟩

abbrev nBuf : Space → Nat
  | .hbm => 11
  | .vmem => 18
  | .smem => 0
  | _ => 0

abbrev bufTy : (tb : Table) → Fin (tcTables nBuf tb) → BufTy
  | .hbm, ⟨0, _⟩ => ⟨S8224x9216, .f32⟩
  | .hbm, ⟨1, _⟩ => ⟨S1024, .f32⟩
  | .hbm, ⟨2, _⟩ => ⟨S2x1024, .f32⟩
  | .hbm, ⟨3, _⟩ => ⟨S2x32x8x128x128, .f32⟩
  | .hbm, ⟨4, _⟩ => ⟨S2x32x8x128x128, .f32⟩
  | .hbm, ⟨5, _⟩ => ⟨S1x1024, .f32⟩
  | .hbm, ⟨6, _⟩ => ⟨S1024, .f32⟩
  | .hbm, ⟨7, _⟩ => ⟨S8x1x128, .f32⟩
  | .hbm, ⟨8, _⟩ => ⟨S8x1x128, .f32⟩
  | .hbm, ⟨9, _⟩ => ⟨S32x1024, .bf16⟩
  | .hbm, ⟨10, _⟩ => ⟨S2x32x8x128x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x32x1x128x128, .f32⟩
  | .local _ .vmem, ⟨13, _⟩ => ⟨S1x32x1x128x128, .f32⟩
  | .local _ .vmem, ⟨14, _⟩ => ⟨S32x128, .bf16⟩
  | .local _ .vmem, ⟨15, _⟩ => ⟨S32x128, .bf16⟩
  | .local _ .vmem, ⟨16, _⟩ => ⟨S1x32x1x128x128, .f32⟩
  | .local _ .vmem, ⟨17, _⟩ => ⟨S1x32x1x128x128, .f32⟩
  | _, _ => ⟨S8224x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c256_i32 : BitVec 32 := 256#32
  let c0_i32 : BitVec 32 := 0#32
  ![c256_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c256_i32 : BitVec 32 := 256#32
  let c0_i32 : BitVec 32 := 0#32
  ![c256_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c256_i32 : BitVec 32 := 256#32
  let c0_i32 : BitVec 32 := 0#32
  ![c256_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c256_i32 : BitVec 32 := 256#32
  let c0_i32 : BitVec 32 := 0#32
  ![c256_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, arg0.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, arg0.toNat, c0_i32_0.toNat, c0_i32_1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8224x9216 : Shape := ⟨2, ![8224, 9216]⟩
abbrev S1024 : Shape := ⟨1, ![1024]⟩
abbrev S2x1024 : Shape := ⟨2, ![2, 1024]⟩
abbrev S2x32x8x128x128 : Shape := ⟨5, ![2, 32, 8, 128, 128]⟩
abbrev S32x9216 : Shape := ⟨2, ![32, 9216]⟩
abbrev S32x1x9216 : Shape := ⟨3, ![32, 1, 9216]⟩
abbrev S32x1x1024 : Shape := ⟨3, ![32, 1, 1024]⟩
abbrev S8x128 : Shape := ⟨2, ![8, 128]⟩
abbrev S32x1x8x128 : Shape := ⟨4, ![32, 1, 8, 128]⟩
abbrev S_ : Shape := ⟨0, ![]⟩
abbrev S1x1x8x128 : Shape := ⟨4, ![1, 1, 8, 128]⟩
abbrev S1x32x8x128x128 : Shape := ⟨5, ![1, 32, 8, 128, 128]⟩
abbrev S32x8x128x128 : Shape := ⟨4, ![32, 8, 128, 128]⟩
abbrev S1x1 : Shape := ⟨2, ![1, 1]⟩
abbrev S1x1x1x1x1 : Shape := ⟨5, ![1, 1, 1, 1, 1]⟩
abbrev S32x1x1x8x128 : Shape := ⟨5, ![32, 1, 1, 8, 128]⟩
abbrev S32x1x8x1 : Shape := ⟨4, ![32, 1, 8, 1]⟩
abbrev S32x1x1x8 : Shape := ⟨4, ![32, 1, 1, 8]⟩
abbrev S32x8x128x1 : Shape := ⟨4, ![32, 8, 128, 1]⟩
abbrev S32x8x128 : Shape := ⟨3, ![32, 8, 128]⟩
abbrev S1x1024 : Shape := ⟨2, ![1, 1024]⟩
abbrev S32x1x8 : Shape := ⟨3, ![32, 1, 8]⟩
abbrev S32x1024 : Shape := ⟨2, ![32, 1024]⟩

abbrev nBuf : Space → Nat
  | .hbm => 149
  | .vmem => 0
  | .smem => 0
  | _ => 0

abbrev hbmTy0_0 (i : Nat) : BufTy := match i % 128 with
  | 0 => ⟨S8224x9216, .f32⟩
  | 1 => ⟨S1024, .f32⟩
  | 2 => ⟨S2x1024, .f32⟩
  | 3 => ⟨S2x32x8x128x128, .f32⟩
  | 4 => ⟨S2x32x8x128x128, .f32⟩
  | 5 => ⟨S32x9216, .f32⟩
  | 6 => ⟨S32x1x9216, .f32⟩
  | 7 => ⟨S32x1x1024, .f32⟩
  | 8 => ⟨S32x1x1024, .f32⟩
  | 9 => ⟨S32x1x1024, .f32⟩
  | 10 => ⟨S32x1x1024, .f32⟩
  | 11 => ⟨S8x128, .f32⟩
  | 12 => ⟨S32x1x8x128, .f32⟩
  | 13 => ⟨S_, .f32⟩
  | 14 => ⟨S8x128, .f32⟩
  | 15 => ⟨S8x128, .f32⟩
  | 16 => ⟨S32x1x8x128, .f32⟩
  | 17 => ⟨S32x1x8x128, .f32⟩
  | 18 => ⟨S_, .f32⟩
  | 19 => ⟨S32x1x8x128, .f32⟩
  | 20 => ⟨S32x1x8x128, .f32⟩
  | 21 => ⟨S_, .f32⟩
  | 22 => ⟨S32x1x8x128, .f32⟩
  | 23 => ⟨S32x1x8x128, .f32⟩
  | 24 => ⟨S1x1x8x128, .f32⟩
  | 25 => ⟨S32x1x8x128, .f32⟩
  | 26 => ⟨S32x1x8x128, .f32⟩
  | 27 => ⟨S1x1x8x128, .f32⟩
  | 28 => ⟨S32x1x8x128, .f32⟩
  | 29 => ⟨S32x1x8x128, .f32⟩
  | 30 => ⟨S_, .f32⟩
  | 31 => ⟨S32x1x8x128, .f32⟩
  | 32 => ⟨S32x1x8x128, .f32⟩
  | 33 => ⟨S32x1x8x128, .f32⟩
  | 34 => ⟨S_, .f32⟩
  | 35 => ⟨S8x128, .f32⟩
  | 36 => ⟨S8x128, .f32⟩
  | 37 => ⟨S32x1x8x128, .f32⟩
  | 38 => ⟨S32x1x8x128, .f32⟩
  | 39 => ⟨S32x1x8x128, .f32⟩
  | 40 => ⟨S_, .f32⟩
  | 41 => ⟨S32x1x8x128, .f32⟩
  | 42 => ⟨S32x1x8x128, .f32⟩
  | 43 => ⟨S_, .f32⟩
  | 44 => ⟨S32x1x8x128, .f32⟩
  | 45 => ⟨S32x1x8x128, .f32⟩
  | 46 => ⟨S1x1x8x128, .f32⟩
  | 47 => ⟨S32x1x8x128, .f32⟩
  | 48 => ⟨S32x1x8x128, .f32⟩
  | 49 => ⟨S32x1x1024, .f32⟩
  | 50 => ⟨S32x1x1024, .f32⟩
  | 51 => ⟨S_, .f32⟩
  | 52 => ⟨S32x1x1024, .f32⟩
  | 53 => ⟨S32x1x1024, .f32⟩
  | 54 => ⟨S_, .f32⟩
  | 55 => ⟨S32x1x1024, .f32⟩
  | 56 => ⟨S32x1x1024, .f32⟩
  | 57 => ⟨S32x1x1024, .f32⟩
  | 58 => ⟨S32x1x8x128, .f32⟩
  | 59 => ⟨S32x1x8x128, .f32⟩
  | 60 => ⟨S1x32x8x128x128, .f32⟩
  | 61 => ⟨S32x8x128x128, .f32⟩
  | 62 => ⟨S_, .f32⟩
  | 63 => ⟨S_, .f32⟩
  | 64 => ⟨S32x1x8x128, .f32⟩
  | 65 => ⟨S_, .i1⟩
  | 66 => ⟨S1x1, .i1⟩
  | 67 => ⟨S1x1, .i32⟩
  | 68 => ⟨S_, .i32⟩
  | 69 => ⟨S1x1, .i32⟩
  | 70 => ⟨S1x1, .i32⟩
  | 71 => ⟨S1x1, .i32⟩
  | 72 => ⟨S1x1, .i1⟩
  | 73 => ⟨S_, .i1⟩
  | 74 => ⟨S1x1, .i1⟩
  | 75 => ⟨S1x1, .i1⟩
  | 76 => ⟨S1x1x1x1x1, .i1⟩
  | 77 => ⟨S32x1x1x8x128, .f32⟩
  | 78 => ⟨S32x1x1x8x128, .f32⟩
  | 79 => ⟨S32x1x1x8x128, .f32⟩
  | 80 => ⟨S_, .f32⟩
  | 81 => ⟨S_, .f32⟩
  | 82 => ⟨S32x1x1x8x128, .i1⟩
  | 83 => ⟨S32x1x1x8x128, .f32⟩
  | 84 => ⟨S32x1x1x8x128, .f32⟩
  | 85 => ⟨S32x1x1x8x128, .f32⟩
  | 86 => ⟨S_, .f32⟩
  | 87 => ⟨S_, .f32⟩
  | 88 => ⟨S32x1x1x8x128, .i1⟩
  | 89 => ⟨S32x1x1x8x128, .f32⟩
  | 90 => ⟨S32x1x1x8x128, .f32⟩
  | 91 => ⟨S32x1x1x8x128, .f32⟩
  | 92 => ⟨S32x1x1x8x128, .f32⟩
  | 93 => ⟨S32x1x8x1, .f32⟩
  | 94 => ⟨S32x1x1x8, .f32⟩
  | 95 => ⟨S32x8x128x1, .f32⟩
  | 96 => ⟨S32x1x8x128, .f32⟩
  | 97 => ⟨S32x1x8x128, .f32⟩
  | 98 => ⟨S32x1x8x128, .f32⟩
  | 99 => ⟨S32x8x128x1, .f32⟩
  | 100 => ⟨S32x1x8x128, .f32⟩
  | 101 => ⟨S32x1x8x128, .f32⟩
  | 102 => ⟨S32x8x128, .f32⟩
  | 103 => ⟨S32x1x8x128, .f32⟩
  | 104 => ⟨S32x1x8x128, .f32⟩
  | 105 => ⟨S32x1x8x128, .f32⟩
  | 106 => ⟨S32x1x8x128, .f32⟩
  | 107 => ⟨S32x8x128, .f32⟩
  | 108 => ⟨S32x8x128x1, .f32⟩
  | 109 => ⟨S32x8x128x128, .f32⟩
  | 110 => ⟨S32x8x128x128, .f32⟩
  | 111 => ⟨S32x8x128x128, .f32⟩
  | 112 => ⟨S32x8x128x128, .f32⟩
  | 113 => ⟨S1x1024, .f32⟩
  | 114 => ⟨S1024, .f32⟩
  | 115 => ⟨S32x1x8x128, .f32⟩
  | 116 => ⟨S_, .f32⟩
  | 117 => ⟨S32x1x8, .f32⟩
  | 118 => ⟨S32x1x8x1, .f32⟩
  | 119 => ⟨S_, .f32⟩
  | 120 => ⟨S32x1x8x1, .f32⟩
  | 121 => ⟨S32x1x8x1, .f32⟩
  | 122 => ⟨S_, .f32⟩
  | 123 => ⟨S32x1x8x1, .f32⟩
  | 124 => ⟨S32x1x8x1, .f32⟩
  | 125 => ⟨S32x1x8x1, .f32⟩
  | 126 => ⟨S32x1x8x128, .f32⟩
  | 127 => ⟨S32x1x8x128, .f32⟩
  | _ => ⟨S8224x9216, .f32⟩

abbrev hbmTy0_1 (i : Nat) : BufTy := match i % 128 with
  | 0 => ⟨S8x128, .f32⟩
  | 1 => ⟨S1x1x8x128, .f32⟩
  | 2 => ⟨S32x1x8x128, .f32⟩
  | 3 => ⟨S32x1x8x128, .f32⟩
  | 4 => ⟨S32x1x1024, .f32⟩
  | 5 => ⟨S32x1x1024, .f32⟩
  | 6 => ⟨S_, .f32⟩
  | 7 => ⟨S32x1x1024, .f32⟩
  | 8 => ⟨S32x1x1024, .f32⟩
  | 9 => ⟨S_, .f32⟩
  | 10 => ⟨S32x1x1024, .f32⟩
  | 11 => ⟨S32x1x1024, .f32⟩
  | 12 => ⟨S32x1x8x128, .f32⟩
  | 13 => ⟨S32x1x8x128, .f32⟩
  | 14 => ⟨S32x1024, .f32⟩
  | 15 => ⟨S32x1024, .bf16⟩
  | 16 => ⟨S1x32x8x128x128, .f32⟩
  | 17 => ⟨S32x8x128x128, .f32⟩
  | 18 => ⟨S1x32x8x128x128, .f32⟩
  | 19 => ⟨S1x32x8x128x128, .f32⟩
  | 20 => ⟨S2x32x8x128x128, .f32⟩
  | _ => ⟨S8224x9216, .f32⟩

abbrev hbmTy (i : Nat) : BufTy := match i / 128 with
  | 0 => hbmTy0_0 i
  | 1 => hbmTy0_1 i
  | _ => ⟨S8224x9216, .f32⟩

abbrev bufTy : (tb : Table) → Fin (tcTables nBuf tb) → BufTy
  | .hbm, ⟨i, _⟩ => hbmTy i
  | _, _ => ⟨S8224x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_call0_cst : Ref sig .tc := ⟨.hbm, 62, rfl⟩
abbrev main_call1_call0_v0 : Ref sig .tc := ⟨.hbm, 63, rfl⟩
abbrev main_v42 : Ref sig .tc := ⟨.hbm, 64, rfl⟩
abbrev main_c : Ref sig .tc := ⟨.hbm, 65, rfl⟩
abbrev main_v43 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_0 : Ref sig .tc := ⟨.hbm, 73, rfl⟩
abbrev main_call2_v5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v49 : Ref sig .tc := ⟨.hbm, 84, rfl⟩
abbrev main_v50 : Ref sig .tc := ⟨.hbm, 85, rfl⟩
abbrev main_cst_7 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_8 : Ref sig .tc := ⟨.hbm, 116, rfl⟩
abbrev main_v77 : Ref sig .tc := ⟨.hbm, 117, rfl⟩
abbrev main_v78 : Ref sig .tc := ⟨.hbm, 118, rfl⟩
abbrev main_cst_9 : Ref sig .tc := ⟨.hbm, 119, rfl⟩
abbrev main_v79 : Ref sig .tc := ⟨.hbm, 120, rfl⟩
abbrev main_v80 : Ref sig .tc := ⟨.hbm, 121, rfl⟩
abbrev main_cst_10 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_11 : Ref sig .tc := ⟨.hbm, 134, rfl⟩
abbrev main_v92 : Ref sig .tc := ⟨.hbm, 135, rfl⟩
abbrev main_v93 : Ref sig .tc := ⟨.hbm, 136, rfl⟩
abbrev main_cst_12 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]
-- ==== Kernel2.lean ====
abbrev S24576x2048 : Shape := ⟨2, ![24576, 2048]⟩
abbrev S1x8x2048x7168 : Shape := ⟨4, ![1, 8, 2048, 7168]⟩
abbrev S24 : Shape := ⟨1, ![24]⟩
abbrev S24576x7168 : Shape := ⟨2, ![24576, 7168]⟩
abbrev S1024x2048 : Shape := ⟨2, ![1024, 2048]⟩
abbrev S1x1x2048x1024 : Shape := ⟨4, ![1, 1, 2048, 1024]⟩
abbrev S1 : Shape := ⟨1, ![1]⟩
abbrev S1024x1024 : Shape := ⟨2, ![1024, 1024]⟩
abbrev S2048x1024 : Shape := ⟨2, ![2048, 1024]⟩
abbrev S128x2048 : Shape := ⟨2, ![128, 2048]⟩
abbrev S2048x512 : Shape := ⟨2, ![2048, 512]⟩
abbrev S128x512 : Shape := ⟨2, ![128, 512]⟩
abbrev S128x1024 : Shape := ⟨2, ![128, 1024]⟩
abbrev S896x1024 : Shape := ⟨2, ![896, 1024]⟩
abbrev S256x2048 : Shape := ⟨2, ![256, 2048]⟩
abbrev S256x512 : Shape := ⟨2, ![256, 512]⟩
abbrev S256x1024 : Shape := ⟨2, ![256, 1024]⟩
abbrev S768x1024 : Shape := ⟨2, ![768, 1024]⟩
abbrev S384x2048 : Shape := ⟨2, ![384, 2048]⟩
abbrev S384x512 : Shape := ⟨2, ![384, 512]⟩
abbrev S384x1024 : Shape := ⟨2, ![384, 1024]⟩
abbrev S640x1024 : Shape := ⟨2, ![640, 1024]⟩
abbrev S512x2048 : Shape := ⟨2, ![512, 2048]⟩
abbrev S512x512 : Shape := ⟨2, ![512, 512]⟩
abbrev S512x1024 : Shape := ⟨2, ![512, 1024]⟩
abbrev S640x2048 : Shape := ⟨2, ![640, 2048]⟩
abbrev S640x512 : Shape := ⟨2, ![640, 512]⟩
abbrev S768x2048 : Shape := ⟨2, ![768, 2048]⟩
abbrev S768x512 : Shape := ⟨2, ![768, 512]⟩
abbrev S896x2048 : Shape := ⟨2, ![896, 2048]⟩
abbrev S896x512 : Shape := ⟨2, ![896, 512]⟩
abbrev S1024x512 : Shape := ⟨2, ![1024, 512]⟩

abbrev nBuf : Space → Nat
  | .hbm => 4
  | .vmem => 10
  | .smem => 3
  | _ => 0

abbrev bufTy : (tb : Table) → Fin (tcTables nBuf tb) → BufTy
  | .hbm, ⟨0, _⟩ => ⟨S24576x2048, .bf16⟩
  | .hbm, ⟨1, _⟩ => ⟨S1x8x2048x7168, .f32⟩
  | .hbm, ⟨2, _⟩ => ⟨S1x8x2048x7168, .f32⟩
  | .hbm, ⟨3, _⟩ => ⟨S24576x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .smem, ⟨0, _⟩ => ⟨S24, .i32⟩
  | .local _ .smem, ⟨1, _⟩ => ⟨S24, .i32⟩
  | .local _ .smem, ⟨2, _⟩ => ⟨S24, .i32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 24], ![false, false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond2 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c0_i32_8 : BitVec 32 := 0#32
  let v26 : BitVec 1 := Scalar.cmpi .eq v25 c0_i32_8
  let v27 : BitVec 32 := Scalar.extui v26
  let c0_i32_9 : BitVec 32 := 0#32
  let v28 : BitVec 1 := Scalar.cmpi .ne v27 c0_i32_9
  v28

def k0_cond3 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c1_i32_10 : BitVec 32 := 1#32
  let v29 : BitVec 1 := Scalar.cmpi .eq v25 c1_i32_10
  let v30 : BitVec 32 := Scalar.extui v29
  let c0_i32_11 : BitVec 32 := 0#32
  let v31 : BitVec 1 := Scalar.cmpi .ne v30 c0_i32_11
  v31

def k0_cond4 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c2_i32 : BitVec 32 := 2#32
  let v32 : BitVec 1 := Scalar.cmpi .eq v25 c2_i32
  let v33 : BitVec 32 := Scalar.extui v32
  let c0_i32_12 : BitVec 32 := 0#32
  let v34 : BitVec 1 := Scalar.cmpi .ne v33 c0_i32_12
  v34

def k0_cond5 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c3_i32 : BitVec 32 := 3#32
  let v35 : BitVec 1 := Scalar.cmpi .eq v25 c3_i32
  let v36 : BitVec 32 := Scalar.extui v35
  let c0_i32_13 : BitVec 32 := 0#32
  let v37 : BitVec 1 := Scalar.cmpi .ne v36 c0_i32_13
  v37

def k0_cond6 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c4_i32 : BitVec 32 := 4#32
  let v38 : BitVec 1 := Scalar.cmpi .eq v25 c4_i32
  let v39 : BitVec 32 := Scalar.extui v38
  let c0_i32_14 : BitVec 32 := 0#32
  let v40 : BitVec 1 := Scalar.cmpi .ne v39 c0_i32_14
  v40

def k0_cond7 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c5_i32 : BitVec 32 := 5#32
  let v41 : BitVec 1 := Scalar.cmpi .eq v25 c5_i32
  let v42 : BitVec 32 := Scalar.extui v41
  let c0_i32_15 : BitVec 32 := 0#32
  let v43 : BitVec 1 := Scalar.cmpi .ne v42 c0_i32_15
  v43

def k0_cond8 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c6_i32 : BitVec 32 := 6#32
  let v44 : BitVec 1 := Scalar.cmpi .eq v25 c6_i32
  let v45 : BitVec 32 := Scalar.extui v44
  let c0_i32_16 : BitVec 32 := 0#32
  let v46 : BitVec 1 := Scalar.cmpi .ne v45 c0_i32_16
  v46

def k0_cond9 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c7_i32 : BitVec 32 := 7#32
  let v47 : BitVec 1 := Scalar.cmpi .eq v25 c7_i32
  let v48 : BitVec 32 := Scalar.extui v47
  let c0_i32_17 : BitVec 32 := 0#32
  let v49 : BitVec 1 := Scalar.cmpi .ne v48 c0_i32_17
  v49

def k0_cond10 (v6 : BitVec 32) : BitVec 1 :=
  let c128_i32 : BitVec 32 := 128#32
  let v7 : BitVec 32 := Scalar.addi v6 c128_i32
  let c1_i32_0 : BitVec 32 := 1#32
  let v8 : BitVec 32 := Scalar.subi v7 c1_i32_0
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let c8_i32 : BitVec 32 := 8#32
  let v50 : BitVec 1 := Scalar.cmpi .eq v25 c8_i32
  let v51 : BitVec 32 := Scalar.extui v50
  let c0_i32_18 : BitVec 32 := 0#32
  let v52 : BitVec 1 := Scalar.cmpi .ne v51 c0_i32_18
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S24576x2048 : Shape := ⟨2, ![24576, 2048]⟩
abbrev S1x8x2048x7168 : Shape := ⟨4, ![1, 8, 2048, 7168]⟩
abbrev S24 : Shape := ⟨1, ![24]⟩
abbrev S24x1 : Shape := ⟨2, ![24, 1]⟩
abbrev S24x1024 : Shape := ⟨2, ![24, 1024]⟩
abbrev S24576x1 : Shape := ⟨2, ![24576, 1]⟩
abbrev S_ : Shape := ⟨0, ![]⟩
abbrev S24576x7168 : Shape := ⟨2, ![24576, 7168]⟩
abbrev S1x1x2048x7168 : Shape := ⟨4, ![1, 1, 2048, 7168]⟩
abbrev S2048x7168 : Shape := ⟨2, ![2048, 7168]⟩

abbrev nBuf : Space → Nat
  | .hbm => 213
  | .vmem => 0
  | .smem => 0
  | _ => 0

abbrev hbmTy0_0 (i : Nat) : BufTy := match i % 128 with
  | 0 => ⟨S24576x2048, .bf16⟩
  | 1 => ⟨S1x8x2048x7168, .f32⟩
  | 2 => ⟨S1x8x2048x7168, .f32⟩
  | 3 => ⟨S24, .i32⟩
  | 4 => ⟨S24, .i32⟩
  | 5 => ⟨S24, .i32⟩
  | 6 => ⟨S24576x2048, .f32⟩
  | 7 => ⟨S24x1, .i32⟩
  | 8 => ⟨S24x1024, .i32⟩
  | 9 => ⟨S24576x1, .i32⟩
  | 10 => ⟨S_, .f32⟩
  | 11 => ⟨S24576x7168, .f32⟩
  | 12 => ⟨S_, .i32⟩
  | 13 => ⟨S24576x1, .i32⟩
  | 14 => ⟨S24576x1, .i1⟩
  | 15 => ⟨S1x1x2048x7168, .f32⟩
  | 16 => ⟨S2048x7168, .f32⟩
  | 17 => ⟨S24576x7168, .f32⟩
  | 18 => ⟨S24576x7168, .f32⟩
  | 19 => ⟨S24576x7168, .f32⟩
  | 20 => ⟨S_, .f32⟩
  | 21 => ⟨S24576x7168, .f32⟩
  | 22 => ⟨S24576x7168, .f32⟩
  | 23 => ⟨S_, .f32⟩
  | 24 => ⟨S24576x7168, .f32⟩
  | 25 => ⟨S24576x7168, .f32⟩
  | 26 => ⟨S24576x7168, .f32⟩
  | 27 => ⟨S1x1x2048x7168, .f32⟩
  | 28 => ⟨S2048x7168, .f32⟩
  | 29 => ⟨S24576x7168, .f32⟩
  | 30 => ⟨S24576x7168, .f32⟩
  | 31 => ⟨S_, .f32⟩
  | 32 => ⟨S_, .f32⟩
  | 33 => ⟨S24576x7168, .i1⟩
  | 34 => ⟨S24576x7168, .f32⟩
  | 35 => ⟨S24576x7168, .f32⟩
  | 36 => ⟨S24576x7168, .f32⟩
  | 37 => ⟨S_, .i32⟩
  | 38 => ⟨S24576x1, .i32⟩
  | 39 => ⟨S24576x1, .i1⟩
  | 40 => ⟨S1x1x2048x7168, .f32⟩
  | 41 => ⟨S2048x7168, .f32⟩
  | 42 => ⟨S24576x7168, .f32⟩
  | 43 => ⟨S24576x7168, .f32⟩
  | 44 => ⟨S24576x7168, .f32⟩
  | 45 => ⟨S_, .f32⟩
  | 46 => ⟨S24576x7168, .f32⟩
  | 47 => ⟨S24576x7168, .f32⟩
  | 48 => ⟨S_, .f32⟩
  | 49 => ⟨S24576x7168, .f32⟩
  | 50 => ⟨S24576x7168, .f32⟩
  | 51 => ⟨S24576x7168, .f32⟩
  | 52 => ⟨S1x1x2048x7168, .f32⟩
  | 53 => ⟨S2048x7168, .f32⟩
  | 54 => ⟨S24576x7168, .f32⟩
  | 55 => ⟨S24576x7168, .f32⟩
  | 56 => ⟨S_, .f32⟩
  | 57 => ⟨S_, .f32⟩
  | 58 => ⟨S24576x7168, .i1⟩
  | 59 => ⟨S24576x7168, .f32⟩
  | 60 => ⟨S24576x7168, .f32⟩
  | 61 => ⟨S24576x7168, .f32⟩
  | 62 => ⟨S_, .i32⟩
  | 63 => ⟨S24576x1, .i32⟩
  | 64 => ⟨S24576x1, .i1⟩
  | 65 => ⟨S1x1x2048x7168, .f32⟩
  | 66 => ⟨S2048x7168, .f32⟩
  | 67 => ⟨S24576x7168, .f32⟩
  | 68 => ⟨S24576x7168, .f32⟩
  | 69 => ⟨S24576x7168, .f32⟩
  | 70 => ⟨S_, .f32⟩
  | 71 => ⟨S24576x7168, .f32⟩
  | 72 => ⟨S24576x7168, .f32⟩
  | 73 => ⟨S_, .f32⟩
  | 74 => ⟨S24576x7168, .f32⟩
  | 75 => ⟨S24576x7168, .f32⟩
  | 76 => ⟨S24576x7168, .f32⟩
  | 77 => ⟨S1x1x2048x7168, .f32⟩
  | 78 => ⟨S2048x7168, .f32⟩
  | 79 => ⟨S24576x7168, .f32⟩
  | 80 => ⟨S24576x7168, .f32⟩
  | 81 => ⟨S_, .f32⟩
  | 82 => ⟨S_, .f32⟩
  | 83 => ⟨S24576x7168, .i1⟩
  | 84 => ⟨S24576x7168, .f32⟩
  | 85 => ⟨S24576x7168, .f32⟩
  | 86 => ⟨S24576x7168, .f32⟩
  | 87 => ⟨S_, .i32⟩
  | 88 => ⟨S24576x1, .i32⟩
  | 89 => ⟨S24576x1, .i1⟩
  | 90 => ⟨S1x1x2048x7168, .f32⟩
  | 91 => ⟨S2048x7168, .f32⟩
  | 92 => ⟨S24576x7168, .f32⟩
  | 93 => ⟨S24576x7168, .f32⟩
  | 94 => ⟨S24576x7168, .f32⟩
  | 95 => ⟨S_, .f32⟩
  | 96 => ⟨S24576x7168, .f32⟩
  | 97 => ⟨S24576x7168, .f32⟩
  | 98 => ⟨S_, .f32⟩
  | 99 => ⟨S24576x7168, .f32⟩
  | 100 => ⟨S24576x7168, .f32⟩
  | 101 => ⟨S24576x7168, .f32⟩
  | 102 => ⟨S1x1x2048x7168, .f32⟩
  | 103 => ⟨S2048x7168, .f32⟩
  | 104 => ⟨S24576x7168, .f32⟩
  | 105 => ⟨S24576x7168, .f32⟩
  | 106 => ⟨S_, .f32⟩
  | 107 => ⟨S_, .f32⟩
  | 108 => ⟨S24576x7168, .i1⟩
  | 109 => ⟨S24576x7168, .f32⟩
  | 110 => ⟨S24576x7168, .f32⟩
  | 111 => ⟨S24576x7168, .f32⟩
  | 112 => ⟨S_, .i32⟩
  | 113 => ⟨S24576x1, .i32⟩
  | 114 => ⟨S24576x1, .i1⟩
  | 115 => ⟨S1x1x2048x7168, .f32⟩
  | 116 => ⟨S2048x7168, .f32⟩
  | 117 => ⟨S24576x7168, .f32⟩
  | 118 => ⟨S24576x7168, .f32⟩
  | 119 => ⟨S24576x7168, .f32⟩
  | 120 => ⟨S_, .f32⟩
  | 121 => ⟨S24576x7168, .f32⟩
  | 122 => ⟨S24576x7168, .f32⟩
  | 123 => ⟨S_, .f32⟩
  | 124 => ⟨S24576x7168, .f32⟩
  | 125 => ⟨S24576x7168, .f32⟩
  | 126 => ⟨S24576x7168, .f32⟩
  | 127 => ⟨S1x1x2048x7168, .f32⟩
  | _ => ⟨S24576x2048, .bf16⟩

abbrev hbmTy0_1 (i : Nat) : BufTy := match i % 128 with
  | 0 => ⟨S2048x7168, .f32⟩
  | 1 => ⟨S24576x7168, .f32⟩
  | 2 => ⟨S24576x7168, .f32⟩
  | 3 => ⟨S_, .f32⟩
  | 4 => ⟨S_, .f32⟩
  | 5 => ⟨S24576x7168, .i1⟩
  | 6 => ⟨S24576x7168, .f32⟩
  | 7 => ⟨S24576x7168, .f32⟩
  | 8 => ⟨S24576x7168, .f32⟩
  | 9 => ⟨S_, .i32⟩
  | 10 => ⟨S24576x1, .i32⟩
  | 11 => ⟨S24576x1, .i1⟩
  | 12 => ⟨S1x1x2048x7168, .f32⟩
  | 13 => ⟨S2048x7168, .f32⟩
  | 14 => ⟨S24576x7168, .f32⟩
  | 15 => ⟨S24576x7168, .f32⟩
  | 16 => ⟨S24576x7168, .f32⟩
  | 17 => ⟨S_, .f32⟩
  | 18 => ⟨S24576x7168, .f32⟩
  | 19 => ⟨S24576x7168, .f32⟩
  | 20 => ⟨S_, .f32⟩
  | 21 => ⟨S24576x7168, .f32⟩
  | 22 => ⟨S24576x7168, .f32⟩
  | 23 => ⟨S24576x7168, .f32⟩
  | 24 => ⟨S1x1x2048x7168, .f32⟩
  | 25 => ⟨S2048x7168, .f32⟩
  | 26 => ⟨S24576x7168, .f32⟩
  | 27 => ⟨S24576x7168, .f32⟩
  | 28 => ⟨S_, .f32⟩
  | 29 => ⟨S_, .f32⟩
  | 30 => ⟨S24576x7168, .i1⟩
  | 31 => ⟨S24576x7168, .f32⟩
  | 32 => ⟨S24576x7168, .f32⟩
  | 33 => ⟨S24576x7168, .f32⟩
  | 34 => ⟨S_, .i32⟩
  | 35 => ⟨S24576x1, .i32⟩
  | 36 => ⟨S24576x1, .i1⟩
  | 37 => ⟨S1x1x2048x7168, .f32⟩
  | 38 => ⟨S2048x7168, .f32⟩
  | 39 => ⟨S24576x7168, .f32⟩
  | 40 => ⟨S24576x7168, .f32⟩
  | 41 => ⟨S24576x7168, .f32⟩
  | 42 => ⟨S_, .f32⟩
  | 43 => ⟨S24576x7168, .f32⟩
  | 44 => ⟨S24576x7168, .f32⟩
  | 45 => ⟨S_, .f32⟩
  | 46 => ⟨S24576x7168, .f32⟩
  | 47 => ⟨S24576x7168, .f32⟩
  | 48 => ⟨S24576x7168, .f32⟩
  | 49 => ⟨S1x1x2048x7168, .f32⟩
  | 50 => ⟨S2048x7168, .f32⟩
  | 51 => ⟨S24576x7168, .f32⟩
  | 52 => ⟨S24576x7168, .f32⟩
  | 53 => ⟨S_, .f32⟩
  | 54 => ⟨S_, .f32⟩
  | 55 => ⟨S24576x7168, .i1⟩
  | 56 => ⟨S24576x7168, .f32⟩
  | 57 => ⟨S24576x7168, .f32⟩
  | 58 => ⟨S24576x7168, .f32⟩
  | 59 => ⟨S_, .i32⟩
  | 60 => ⟨S24576x1, .i32⟩
  | 61 => ⟨S24576x1, .i1⟩
  | 62 => ⟨S1x1x2048x7168, .f32⟩
  | 63 => ⟨S2048x7168, .f32⟩
  | 64 => ⟨S24576x7168, .f32⟩
  | 65 => ⟨S24576x7168, .f32⟩
  | 66 => ⟨S24576x7168, .f32⟩
  | 67 => ⟨S_, .f32⟩
  | 68 => ⟨S24576x7168, .f32⟩
  | 69 => ⟨S24576x7168, .f32⟩
  | 70 => ⟨S_, .f32⟩
  | 71 => ⟨S24576x7168, .f32⟩
  | 72 => ⟨S24576x7168, .f32⟩
  | 73 => ⟨S24576x7168, .f32⟩
  | 74 => ⟨S1x1x2048x7168, .f32⟩
  | 75 => ⟨S2048x7168, .f32⟩
  | 76 => ⟨S24576x7168, .f32⟩
  | 77 => ⟨S24576x7168, .f32⟩
  | 78 => ⟨S_, .f32⟩
  | 79 => ⟨S_, .f32⟩
  | 80 => ⟨S24576x7168, .i1⟩
  | 81 => ⟨S24576x7168, .f32⟩
  | 82 => ⟨S24576x7168, .f32⟩
  | 83 => ⟨S24576x7168, .f32⟩
  | 84 => ⟨S24576x7168, .bf16⟩
  | _ => ⟨S24576x2048, .bf16⟩

abbrev hbmTy (i : Nat) : BufTy := match i / 128 with
  | 0 => hbmTy0_0 i
  | 1 => hbmTy0_1 i
  | _ => ⟨S24576x2048, .bf16⟩

abbrev bufTy : (tb : Table) → Fin (tcTables nBuf tb) → BufTy
  | .hbm, ⟨i, _⟩ => hbmTy i
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_2 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v27 : Ref sig .tc := ⟨.hbm, 60, rfl⟩
abbrev main_v28 : Ref sig .tc := ⟨.hbm, 61, rfl⟩
abbrev main_c_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call4_v0 : Ref sig .tc := ⟨.hbm, 68, rfl⟩
abbrev main_call4_v1 : Ref sig .tc := ⟨.hbm, 69, rfl⟩
abbrev main_call4_cst : Ref sig .tc := ⟨.hbm, 70, rfl⟩
abbrev main_call4_v2 : Ref sig .tc := ⟨.hbm, 71, rfl⟩
abbrev main_call4_v3 : Ref sig .tc := ⟨.hbm, 72, rfl⟩
abbrev main_call4_cst_0 : Ref sig .tc := ⟨.hbm, 73, rfl⟩
abbrev main_call4_v4 : Ref sig .tc := ⟨.hbm, 74, rfl⟩
abbrev main_call4_v5 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_4 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_v39 : Ref sig .tc := ⟨.hbm, 85, rfl⟩
abbrev main_v40 : Ref sig .tc := ⟨.hbm, 86, rfl⟩
abbrev main_c_5 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_call6_v0 : Ref sig .tc := ⟨.hbm, 93, rfl⟩
abbrev main_call6_v1 : Ref sig .tc := ⟨.hbm, 94, rfl⟩
abbrev main_call6_cst : Ref sig .tc := ⟨.hbm, 95, rfl⟩
abbrev main_call6_v2 : Ref sig .tc := ⟨.hbm, 96, rfl⟩
abbrev main_call6_v3 : Ref sig .tc := ⟨.hbm, 97, rfl⟩
abbrev main_call6_cst_0 : Ref sig .tc := ⟨.hbm, 98, rfl⟩
abbrev main_call6_v4 : Ref sig .tc := ⟨.hbm, 99, rfl⟩
abbrev main_call6_v5 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_6 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_v51 : Ref sig .tc := ⟨.hbm, 110, rfl⟩
abbrev main_v52 : Ref sig .tc := ⟨.hbm, 111, rfl⟩
abbrev main_c_7 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_call8_v0 : Ref sig .tc := ⟨.hbm, 118, rfl⟩
abbrev main_call8_v1 : Ref sig .tc := ⟨.hbm, 119, rfl⟩
abbrev main_call8_cst : Ref sig .tc := ⟨.hbm, 120, rfl⟩
abbrev main_call8_v2 : Ref sig .tc := ⟨.hbm, 121, rfl⟩
abbrev main_call8_v3 : Ref sig .tc := ⟨.hbm, 122, rfl⟩
abbrev main_call8_cst_0 : Ref sig .tc := ⟨.hbm, 123, rfl⟩
abbrev main_call8_v4 : Ref sig .tc := ⟨.hbm, 124, rfl⟩
abbrev main_call8_v5 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_cst_8 : Ref sig .tc := ⟨.hbm, 131, rfl⟩
abbrev main_call9_v0 : Ref sig .tc := ⟨.hbm, 132, rfl⟩
abbrev main_call9_v1 : Ref sig .tc := ⟨.hbm, 133, rfl⟩
abbrev main_call9_v2 : Ref sig .tc := ⟨.hbm, 134, rfl⟩
abbrev main_v63 : Ref sig .tc := ⟨.hbm, 135, rfl⟩
abbrev main_v64 : Ref sig .tc := ⟨.hbm, 136, rfl⟩
abbrev main_c_9 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_call10_v0 : Ref sig .tc := ⟨.hbm, 143, rfl⟩
abbrev main_call10_v1 : Ref sig .tc := ⟨.hbm, 144, rfl⟩
abbrev main_call10_cst : Ref sig .tc := ⟨.hbm, 145, rfl⟩
abbrev main_call10_v2 : Ref sig .tc := ⟨.hbm, 146, rfl⟩
abbrev main_call10_v3 : Ref sig .tc := ⟨.hbm, 147, rfl⟩
abbrev main_call10_cst_0 : Ref sig .tc := ⟨.hbm, 148, rfl⟩
abbrev main_call10_v4 : Ref sig .tc := ⟨.hbm, 149, rfl⟩
abbrev main_call10_v5 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_cst_10 : Ref sig .tc := ⟨.hbm, 156, rfl⟩
abbrev main_call11_v0 : Ref sig .tc := ⟨.hbm, 157, rfl⟩
abbrev main_call11_v1 : Ref sig .tc := ⟨.hbm, 158, rfl⟩
abbrev main_call11_v2 : Ref sig .tc := ⟨.hbm, 159, rfl⟩
abbrev main_v75 : Ref sig .tc := ⟨.hbm, 160, rfl⟩
abbrev main_v76 : Ref sig .tc := ⟨.hbm, 161, rfl⟩
abbrev main_c_11 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_call12_v0 : Ref sig .tc := ⟨.hbm, 168, rfl⟩
abbrev main_call12_v1 : Ref sig .tc := ⟨.hbm, 169, rfl⟩
abbrev main_call12_cst : Ref sig .tc := ⟨.hbm, 170, rfl⟩
abbrev main_call12_v2 : Ref sig .tc := ⟨.hbm, 171, rfl⟩
abbrev main_call12_v3 : Ref sig .tc := ⟨.hbm, 172, rfl⟩
abbrev main_call12_cst_0 : Ref sig .tc := ⟨.hbm, 173, rfl⟩
abbrev main_call12_v4 : Ref sig .tc := ⟨.hbm, 174, rfl⟩
abbrev main_call12_v5 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_cst_12 : Ref sig .tc := ⟨.hbm, 181, rfl⟩
abbrev main_call13_v0 : Ref sig .tc := ⟨.hbm, 182, rfl⟩
abbrev main_call13_v1 : Ref sig .tc := ⟨.hbm, 183, rfl⟩
abbrev main_call13_v2 : Ref sig .tc := ⟨.hbm, 184, rfl⟩
abbrev main_v87 : Ref sig .tc := ⟨.hbm, 185, rfl⟩
abbrev main_v88 : Ref sig .tc := ⟨.hbm, 186, rfl⟩
abbrev main_c_13 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_call14_v0 : Ref sig .tc := ⟨.hbm, 193, rfl⟩
abbrev main_call14_v1 : Ref sig .tc := ⟨.hbm, 194, rfl⟩
abbrev main_call14_cst : Ref sig .tc := ⟨.hbm, 195, rfl⟩
abbrev main_call14_v2 : Ref sig .tc := ⟨.hbm, 196, rfl⟩
abbrev main_call14_v3 : Ref sig .tc := ⟨.hbm, 197, rfl⟩
abbrev main_call14_cst_0 : Ref sig .tc := ⟨.hbm, 198, rfl⟩
abbrev main_call14_v4 : Ref sig .tc := ⟨.hbm, 199, rfl⟩
abbrev main_call14_v5 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_cst_14 : Ref sig .tc := ⟨.hbm, 206, rfl⟩
abbrev main_call15_v0 : Ref sig .tc := ⟨.hbm, 207, rfl⟩
abbrev main_call15_v1 : Ref sig .tc := ⟨.hbm, 208, rfl⟩
abbrev main_call15_v2 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩

abbrev nD : Nat := 1
abbrev τ : Topo := Topo.v7x

variable {F : FTy → Type} [FloatOps F]
-- ==== Kernel3.lean ====
abbrev S24576x7168 : Shape := ⟨2, ![24576, 7168]⟩
abbrev S1x8x7168x2048 : Shape := ⟨4, ![1, 8, 7168, 2048]⟩
abbrev S24 : Shape := ⟨1, ![24]⟩
abbrev S24576x2048 : Shape := ⟨2, ![24576, 2048]⟩
abbrev S512x7168 : Shape := ⟨2, ![512, 7168]⟩
abbrev S1x1x7168x512 : Shape := ⟨4, ![1, 1, 7168, 512]⟩
abbrev S1 : Shape := ⟨1, ![1]⟩
abbrev S512x512 : Shape := ⟨2, ![512, 512]⟩
abbrev S7168x512 : Shape := ⟨2, ![7168, 512]⟩
abbrev S128x7168 : Shape := ⟨2, ![128, 7168]⟩
abbrev S128x512 : Shape := ⟨2, ![128, 512]⟩
abbrev S384x512 : Shape := ⟨2, ![384, 512]⟩
abbrev S256x7168 : Shape := ⟨2, ![256, 7168]⟩
abbrev S256x512 : Shape := ⟨2, ![256, 512]⟩
abbrev S384x7168 : Shape := ⟨2, ![384, 7168]⟩

abbrev nBuf : Space → Nat
  | .hbm => 3
  | .vmem => 7
  | .smem => 3
  | _ => 0

abbrev bufTy : (tb : Table) → Fin (tcTables nBuf tb) → BufTy
  | .hbm, ⟨0, _⟩ => ⟨S24576x7168, .bf16⟩
  | .hbm, ⟨1, _⟩ => ⟨S1x8x7168x2048, .f32⟩
  | .hbm, ⟨2, _⟩ => ⟨S24576x2048, .f32⟩
  | .local _ .vmem, ⟨0, _⟩ => ⟨S512x7168, .bf16⟩
  | .local _ .vmem, ⟨1, _⟩ => ⟨S512x7168, .bf16⟩
  | .local _ .vmem, ⟨2, _⟩ => ⟨S1x1x7168x512, .f32⟩
  | .local _ .vmem, ⟨3, _⟩ => ⟨S1x1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S24, .i32⟩
  | .local _ .smem, ⟨1, _⟩ => ⟨S24, .i32⟩
  | .local _ .smem, ⟨2, _⟩ => ⟨S24, .i32⟩
  | _, _ => ⟨S24576x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 48], ![false, false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v17 : Index := Scalar.indexCast v16
  ![v17.toNat]
def k0_off2 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v34 : Index := Scalar.indexCast v16
  ![v34.toNat]
def k0_cond2 (i : grid0.Coords) (v35 : BitVec 32) : BitVec 1 :=
  let c512_i32_14 : BitVec 32 := 512#32
  let c0_i32_13 : BitVec 32 := 0#32
  let arg1 : BitVec 32 := BitVec.ofNat 32 (i 1).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v36 : BitVec 32 := Scalar.muli v26 c512_i32
  let v37 : BitVec 32 := Scalar.subi v35 v36
  let v38 : BitVec 32 := Scalar.maxsi c0_i32_13 v37
  let v39 : BitVec 32 := Scalar.minsi c512_i32_14 v38
  let c128_i32 : BitVec 32 := 128#32
  let v40 : BitVec 32 := Scalar.addi v39 c128_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c128_i32_16 : BitVec 32 := 128#32
  let c0_i32_19 : BitVec 32 := 0#32
  let v48 : BitVec 1 := Scalar.cmpi .sgt c128_i32_16 c0_i32_19
  let v49 : BitVec 32 := Scalar.extui v48
  let c0_i32_20 : BitVec 32 := 0#32
  let v50 : BitVec 1 := Scalar.cmpi .slt c128_i32_16 c0_i32_20
  let v51 : BitVec 32 := Scalar.extui v50
  let v52 : BitVec 32 := Scalar.subi v49 v51
  let v53 : BitVec 1 := Scalar.cmpi .ne v47 v52
  let v54 : BitVec 32 := Scalar.remsi v41 c128_i32_16
  let c0_i32_21 : BitVec 32 := 0#32
  let v55 : BitVec 1 := Scalar.cmpi .ne v54 c0_i32_21
  let v56 : BitVec 1 := Scalar.andi v53 v55
  let v42 : BitVec 32 := Scalar.divsi v41 c128_i32_16
  let c1_i32_22 : BitVec 32 := 1#32
  let v57 : BitVec 32 := Scalar.subi v42 c1_i32_22
  let v58 : BitVec 32 := Scalar.select v56 v57 v42
  let c0_i32_23 : BitVec 32 := 0#32
  let v59 : BitVec 1 := Scalar.cmpi .eq v58 c0_i32_23
  let v60 : BitVec 32 := Scalar.extui v59
  let c0_i32_24 : BitVec 32 := 0#32
  let v61 : BitVec 1 := Scalar.cmpi .ne v60 c0_i32_24
  v61

def k0_cond3 (i : grid0.Coords) (v35 : BitVec 32) : BitVec 1 :=
  let c512_i32_14 : BitVec 32 := 512#32
  let c0_i32_13 : BitVec 32 := 0#32
  let arg1 : BitVec 32 := BitVec.ofNat 32 (i 1).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v36 : BitVec 32 := Scalar.muli v26 c512_i32
  let v37 : BitVec 32 := Scalar.subi v35 v36
  let v38 : BitVec 32 := Scalar.maxsi c0_i32_13 v37
  let v39 : BitVec 32 := Scalar.minsi c512_i32_14 v38
  let c128_i32 : BitVec 32 := 128#32
  let v40 : BitVec 32 := Scalar.addi v39 c128_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c128_i32_16 : BitVec 32 := 128#32
  let c0_i32_19 : BitVec 32 := 0#32
  let v48 : BitVec 1 := Scalar.cmpi .sgt c128_i32_16 c0_i32_19
  let v49 : BitVec 32 := Scalar.extui v48
  let c0_i32_20 : BitVec 32 := 0#32
  let v50 : BitVec 1 := Scalar.cmpi .slt c128_i32_16 c0_i32_20
  let v51 : BitVec 32 := Scalar.extui v50
  let v52 : BitVec 32 := Scalar.subi v49 v51
  let v53 : BitVec 1 := Scalar.cmpi .ne v47 v52
  let v54 : BitVec 32 := Scalar.remsi v41 c128_i32_16
  let c0_i32_21 : BitVec 32 := 0#32
  let v55 : BitVec 1 := Scalar.cmpi .ne v54 c0_i32_21
  let v56 : BitVec 1 := Scalar.andi v53 v55
  let v42 : BitVec 32 := Scalar.divsi v41 c128_i32_16
  let c1_i32_22 : BitVec 32 := 1#32
  let v57 : BitVec 32 := Scalar.subi v42 c1_i32_22
  let v58 : BitVec 32 := Scalar.select v56 v57 v42
  let c1_i32_25 : BitVec 32 := 1#32
  let v62 : BitVec 1 := Scalar.cmpi .eq v58 c1_i32_25
  let v63 : BitVec 32 := Scalar.extui v62
  let c0_i32_26 : BitVec 32 := 0#32
  let v64 : BitVec 1 := Scalar.cmpi .ne v63 c0_i32_26
  v64

def k0_cond4 (i : grid0.Coords) (v35 : BitVec 32) : BitVec 1 :=
  let c512_i32_14 : BitVec 32 := 512#32
  let c0_i32_13 : BitVec 32 := 0#32
  let arg1 : BitVec 32 := BitVec.ofNat 32 (i 1).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v36 : BitVec 32 := Scalar.muli v26 c512_i32
  let v37 : BitVec 32 := Scalar.subi v35 v36
  let v38 : BitVec 32 := Scalar.maxsi c0_i32_13 v37
  let v39 : BitVec 32 := Scalar.minsi c512_i32_14 v38
  let c128_i32 : BitVec 32 := 128#32
  let v40 : BitVec 32 := Scalar.addi v39 c128_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c128_i32_16 : BitVec 32 := 128#32
  let c0_i32_19 : BitVec 32 := 0#32
  let v48 : BitVec 1 := Scalar.cmpi .sgt c128_i32_16 c0_i32_19
  let v49 : BitVec 32 := Scalar.extui v48
  let c0_i32_20 : BitVec 32 := 0#32
  let v50 : BitVec 1 := Scalar.cmpi .slt c128_i32_16 c0_i32_20
  let v51 : BitVec 32 := Scalar.extui v50
  let v52 : BitVec 32 := Scalar.subi v49 v51
  let v53 : BitVec 1 := Scalar.cmpi .ne v47 v52
  let v54 : BitVec 32 := Scalar.remsi v41 c128_i32_16
  let c0_i32_21 : BitVec 32 := 0#32
  let v55 : BitVec 1 := Scalar.cmpi .ne v54 c0_i32_21
  let v56 : BitVec 1 := Scalar.andi v53 v55
  let v42 : BitVec 32 := Scalar.divsi v41 c128_i32_16
  let c1_i32_22 : BitVec 32 := 1#32
  let v57 : BitVec 32 := Scalar.subi v42 c1_i32_22
  let v58 : BitVec 32 := Scalar.select v56 v57 v42
  let c2_i32_27 : BitVec 32 := 2#32
  let v65 : BitVec 1 := Scalar.cmpi .eq v58 c2_i32_27
  let v66 : BitVec 32 := Scalar.extui v65
  let c0_i32_28 : BitVec 32 := 0#32
  let v67 : BitVec 1 := Scalar.cmpi .ne v66 c0_i32_28
  v67

def k0_cond5 (i : grid0.Coords) (v35 : BitVec 32) : BitVec 1 :=
  let c512_i32_14 : BitVec 32 := 512#32
  let c0_i32_13 : BitVec 32 := 0#32
  let arg1 : BitVec 32 := BitVec.ofNat 32 (i 1).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v36 : BitVec 32 := Scalar.muli v26 c512_i32
  let v37 : BitVec 32 := Scalar.subi v35 v36
  let v38 : BitVec 32 := Scalar.maxsi c0_i32_13 v37
  let v39 : BitVec 32 := Scalar.minsi c512_i32_14 v38
  let c128_i32 : BitVec 32 := 128#32
  let v40 : BitVec 32 := Scalar.addi v39 c128_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c128_i32_16 : BitVec 32 := 128#32
  let c0_i32_19 : BitVec 32 := 0#32
  let v48 : BitVec 1 := Scalar.cmpi .sgt c128_i32_16 c0_i32_19
  let v49 : BitVec 32 := Scalar.extui v48
  let c0_i32_20 : BitVec 32 := 0#32
  let v50 : BitVec 1 := Scalar.cmpi .slt c128_i32_16 c0_i32_20
  let v51 : BitVec 32 := Scalar.extui v50
  let v52 : BitVec 32 := Scalar.subi v49 v51
  let v53 : BitVec 1 := Scalar.cmpi .ne v47 v52
  let v54 : BitVec 32 := Scalar.remsi v41 c128_i32_16
  let c0_i32_21 : BitVec 32 := 0#32
  let v55 : BitVec 1 := Scalar.cmpi .ne v54 c0_i32_21
  let v56 : BitVec 1 := Scalar.andi v53 v55
  let v42 : BitVec 32 := Scalar.divsi v41 c128_i32_16
  let c1_i32_22 : BitVec 32 := 1#32
  let v57 : BitVec 32 := Scalar.subi v42 c1_i32_22
  let v58 : BitVec 32 := Scalar.select v56 v57 v42
  let c3_i32 : BitVec 32 := 3#32
  let v68 : BitVec 1 := Scalar.cmpi .eq v58 c3_i32
  let v69 : BitVec 32 := Scalar.extui v68
  let c0_i32_29 : BitVec 32 := 0#32
  let v70 : BitVec 1 := Scalar.cmpi .ne v69 c0_i32_29
  v70

def k0_cond6 (i : grid0.Coords) (v35 : BitVec 32) : BitVec 1 :=
  let c512_i32_14 : BitVec 32 := 512#32
  let c0_i32_13 : BitVec 32 := 0#32
  let arg1 : BitVec 32 := BitVec.ofNat 32 (i 1).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v36 : BitVec 32 := Scalar.muli v26 c512_i32
  let v37 : BitVec 32 := Scalar.subi v35 v36
  let v38 : BitVec 32 := Scalar.maxsi c0_i32_13 v37
  let v39 : BitVec 32 := Scalar.minsi c512_i32_14 v38
  let c128_i32 : BitVec 32 := 128#32
  let v40 : BitVec 32 := Scalar.addi v39 c128_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c128_i32_16 : BitVec 32 := 128#32
  let c0_i32_19 : BitVec 32 := 0#32
  let v48 : BitVec 1 := Scalar.cmpi .sgt c128_i32_16 c0_i32_19
  let v49 : BitVec 32 := Scalar.extui v48
  let c0_i32_20 : BitVec 32 := 0#32
  let v50 : BitVec 1 := Scalar.cmpi .slt c128_i32_16 c0_i32_20
  let v51 : BitVec 32 := Scalar.extui v50
  let v52 : BitVec 32 := Scalar.subi v49 v51
  let v53 : BitVec 1 := Scalar.cmpi .ne v47 v52
  let v54 : BitVec 32 := Scalar.remsi v41 c128_i32_16
  let c0_i32_21 : BitVec 32 := 0#32
  let v55 : BitVec 1 := Scalar.cmpi .ne v54 c0_i32_21
  let v56 : BitVec 1 := Scalar.andi v53 v55
  let v42 : BitVec 32 := Scalar.divsi v41 c128_i32_16
  let c1_i32_22 : BitVec 32 := 1#32
  let v57 : BitVec 32 := Scalar.subi v42 c1_i32_22
  let v58 : BitVec 32 := Scalar.select v56 v57 v42
  let c4_i32 : BitVec 32 := 4#32
  let v71 : BitVec 1 := Scalar.cmpi .eq v58 c4_i32
  let v72 : BitVec 32 := Scalar.extui v71
  let c0_i32_30 : BitVec 32 := 0#32
  let v73 : BitVec 1 := Scalar.cmpi .ne v72 c0_i32_30
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S24) ![v17.toNat] S1.size (k0_off1_inb i)) numel1_S1
  let c0_i32_4 : BitVec 32 := 0#32
  let c0_i32_5 : BitVec 32 := 0#32
  let c0_i32_6 : BitVec 32 := 0#32
  ![c0_i32_4.toNat, v18.toNat, c0_i32_5.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S24576x7168 : Shape := ⟨2, ![24576, 7168]⟩
abbrev S1x8x7168x2048 : Shape := ⟨4, ![1, 8, 7168, 2048]⟩
abbrev S24 : Shape := ⟨1, ![24]⟩
abbrev S24x1 : Shape := ⟨2, ![24, 1]⟩
abbrev S24x1024 : Shape := ⟨2, ![24, 1024]⟩
abbrev S24576x1 : Shape := ⟨2, ![24576, 1]⟩
abbrev S_ : Shape := ⟨0, ![]⟩
abbrev S24576x2048 : Shape := ⟨2, ![24576, 2048]⟩
abbrev S1x1x7168x2048 : Shape := ⟨4, ![1, 1, 7168, 2048]⟩
abbrev S7168x2048 : Shape := ⟨2, ![7168, 2048]⟩

abbrev nBuf : Space → Nat
  | .hbm => 107
  | .vmem => 0
  | .smem => 0
  | _ => 0

abbrev bufTy : (tb : Table) → Fin (tcTables nBuf tb) → BufTy
  | .hbm, ⟨0, _⟩ => ⟨S24576x7168, .bf16⟩
  | .hbm, ⟨1, _⟩ => ⟨S1x8x7168x2048, .f32⟩
  | .hbm, ⟨2, _⟩ => ⟨S24, .i32⟩
  | .hbm, ⟨3, _⟩ => ⟨S24, .i32⟩
  | .hbm, ⟨4, _⟩ => ⟨S24, .i32⟩
  | .hbm, ⟨5, _⟩ => ⟨S24576x7168, .f32⟩
  | .hbm, ⟨6, _⟩ => ⟨S24x1, .i32⟩
  | .hbm, ⟨7, _⟩ => ⟨S24x1024, .i32⟩
  | .hbm, ⟨8, _⟩ => ⟨S24576x1, .i32⟩
  | .hbm, ⟨9, _⟩ => ⟨S_, .f32⟩
  | .hbm, ⟨10, _⟩ => ⟨S24576x2048, .f32⟩
  | .hbm, ⟨11, _⟩ => ⟨S_, .i32⟩
  | .hbm, ⟨12, _⟩ => ⟨S24576x1, .i32⟩
  | .hbm, ⟨13, _⟩ => ⟨S24576x1, .i1⟩
  | .hbm, ⟨14, _⟩ => ⟨S1x1x7168x2048, .f32⟩
  | .hbm, ⟨15, _⟩ => ⟨S7168x2048, .f32⟩
  | .hbm, ⟨16, _⟩ => ⟨S24576x2048, .f32⟩
  | .hbm, ⟨17, _⟩ => ⟨S_, .f32⟩
  | .hbm, ⟨18, _⟩ => ⟨S_, .f32⟩
  | .hbm, ⟨19, _⟩ => ⟨S24576x2048, .i1⟩
  | .hbm, ⟨20, _⟩ => ⟨S24576x2048, .f32⟩
  | .hbm, ⟨21, _⟩ => ⟨S24576x2048, .f32⟩
  | .hbm, ⟨22, _⟩ => ⟨S24576x2048, .f32⟩
  | .hbm, ⟨23, _⟩ => ⟨S_, .i32⟩
  | .hbm, ⟨24, _⟩ => ⟨S24576x1, .i32⟩
  | .hbm, ⟨25, _⟩ => ⟨S24576x1, .i1⟩
  | .hbm, ⟨26, _⟩ => ⟨S1x1x7168x2048, .f32⟩
  | .hbm, ⟨27, _⟩ => ⟨S7168x2048, .f32⟩
  | .hbm, ⟨28, _⟩ => ⟨S24576x2048, .f32⟩
  | .hbm, ⟨29, _⟩ => ⟨S_, .f32⟩
  | .hbm, ⟨30, _⟩ => ⟨S_, .f32⟩
  | .hbm, ⟨31, _⟩ => ⟨S24576x2048, .i1⟩
  | .hbm, ⟨32, _⟩ => ⟨S24576x2048, .f32⟩
  | .hbm, ⟨33, _⟩ => ⟨S24576x2048, .f32⟩
  | .hbm, ⟨34, _⟩ => ⟨S24576x2048, .f32⟩
  | .hbm, ⟨35, _⟩ => ⟨S_, .i32⟩
  | .hbm, ⟨36, _⟩ => ⟨S24576x1, .i32⟩
  | .hbm, ⟨37, _⟩ => ⟨S24576x1, .i1⟩
  | .hbm, ⟨38, _⟩ => ⟨S1x1x7168x2048, .f32⟩
  | .hbm, ⟨39, _⟩ => ⟨S7168x2048, .f32⟩
  | .hbm, ⟨40, _⟩ => ⟨S24576x2048, .f32⟩
  | .hbm, ⟨41, _⟩ => ⟨S_, .f32⟩
  | .hbm, ⟨42, _⟩ => ⟨S_, .f32⟩
  | .hbm, ⟨43, _⟩ => ⟨S24576x2048, .i1⟩
  | .hbm, ⟨44, _⟩ => ⟨S24576x2048, .f32⟩
  | .hbm, ⟨45, _⟩ => ⟨S24576x2048, .f32⟩
  | .hbm, ⟨46, _⟩ => ⟨S24576x2048, .f32⟩
  | .hbm, ⟨47, _⟩ => ⟨S_, .i32⟩
  | .hbm, ⟨48, _⟩ => ⟨S24576x1, .i32⟩
  | .hbm, ⟨49, _⟩ => ⟨S24576x1, .i1⟩
  | .hbm, ⟨50, _⟩ => ⟨S1x1x7168x2048, .f32⟩
  | .hbm, ⟨51, _⟩ => ⟨S7168x2048, .f32⟩
  | .hbm, ⟨52, _⟩ => ⟨S24576x2048, .f32⟩
  | .hbm, ⟨53, _⟩ => ⟨S_, .f32⟩
  | .hbm, ⟨54, _⟩ => ⟨S_, .f32⟩
  | .hbm, ⟨55, _⟩ => ⟨S24576x2048, .i1⟩
  | .hbm, ⟨56, _⟩ => ⟨S24576x2048, .f32⟩
  | .hbm, ⟨57, _⟩ => ⟨S24576x2048, .f32⟩
  | .hbm, ⟨58, _⟩ => ⟨S24576x2048, .f32⟩
  | .hbm, ⟨59, _⟩ => ⟨S_, .i32⟩
  | .hbm, ⟨60, _⟩ => ⟨S24576x1, .i32⟩
  | .hbm, ⟨61, _⟩ => ⟨S24576x1, .i1⟩
  | .hbm, ⟨62, _⟩ => ⟨S1x1x7168x2048, .f32⟩
  | .hbm, ⟨63, _⟩ => ⟨S7168x2048, .f32⟩
  | .hbm, ⟨64, _⟩ => ⟨S24576x2048, .f32⟩
  | .hbm, ⟨65, _⟩ => ⟨S_, .f32⟩
  | .hbm, ⟨66, _⟩ => ⟨S_, .f32⟩
  | .hbm, ⟨67, _⟩ => ⟨S24576x2048, .i1⟩
  | .hbm, ⟨68, _⟩ => ⟨S24576x2048, .f32⟩
  | .hbm, ⟨69, _⟩ => ⟨S24576x2048, .f32⟩
  | .hbm, ⟨70, _⟩ => ⟨S24576x2048, .f32⟩
  | .hbm, ⟨71, _⟩ => ⟨S_, .i32⟩
  | .hbm, ⟨72, _⟩ => ⟨S24576x1, .i32⟩
  | .hbm, ⟨73, _⟩ => ⟨S24576x1, .i1⟩
  | .hbm, ⟨74, _⟩ => ⟨S1x1x7168x2048, .f32⟩
  | .hbm, ⟨75, _⟩ => ⟨S7168x2048, .f32⟩
  | .hbm, ⟨76, _⟩ => ⟨S24576x2048, .f32⟩
  | .hbm, ⟨77, _⟩ => ⟨S_, .f32⟩
  | .hbm, ⟨78, _⟩ => ⟨S_, .f32⟩
  | .hbm, ⟨79, _⟩ => ⟨S24576x2048, .i1⟩
  | .hbm, ⟨80, _⟩ => ⟨S24576x2048, .f32⟩
  | .hbm, ⟨81, _⟩ => ⟨S24576x2048, .f32⟩
  | .hbm, ⟨82, _⟩ => ⟨S24576x2048, .f32⟩
  | .hbm, ⟨83, _⟩ => ⟨S_, .i32⟩
  | .hbm, ⟨84, _⟩ => ⟨S24576x1, .i32⟩
  | .hbm, ⟨85, _⟩ => ⟨S24576x1, .i1⟩
  | .hbm, ⟨86, _⟩ => ⟨S1x1x7168x2048, .f32⟩
  | .hbm, ⟨87, _⟩ => ⟨S7168x2048, .f32⟩
  | .hbm, ⟨88, _⟩ => ⟨S24576x2048, .f32⟩
  | .hbm, ⟨89, _⟩ => ⟨S_, .f32⟩
  | .hbm, ⟨90, _⟩ => ⟨S_, .f32⟩
  | .hbm, ⟨91, _⟩ => ⟨S24576x2048, .i1⟩
  | .hbm, ⟨92, _⟩ => ⟨S24576x2048, .f32⟩
  | .hbm, ⟨93, _⟩ => ⟨S24576x2048, .f32⟩
  | .hbm, ⟨94, _⟩ => ⟨S24576x2048, .f32⟩
  | .hbm, ⟨95, _⟩ => ⟨S_, .i32⟩
  | .hbm, ⟨96, _⟩ => ⟨S24576x1, .i32⟩
  | .hbm, ⟨97, _⟩ => ⟨S24576x1, .i1⟩
  | .hbm, ⟨98, _⟩ => ⟨S1x1x7168x2048, .f32⟩
  | .hbm, ⟨99, _⟩ => ⟨S7168x2048, .f32⟩
  | .hbm, ⟨100, _⟩ => ⟨S24576x2048, .f32⟩
  | .hbm, ⟨101, _⟩ => ⟨S_, .f32⟩
  | .hbm, ⟨102, _⟩ => ⟨S_, .f32⟩
  | .hbm, ⟨103, _⟩ => ⟨S24576x2048, .i1⟩
  | .hbm, ⟨104, _⟩ => ⟨S24576x2048, .f32⟩
  | .hbm, ⟨105, _⟩ => ⟨S24576x2048, .f32⟩
  | .hbm, ⟨106, _⟩ => ⟨S24576x2048, .f32⟩
  | _, _ => ⟨S24576x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v38 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_v45 : Ref sig .tc := ⟨.hbm, 81, rfl⟩
abbrev main_v46 : Ref sig .tc := ⟨.hbm, 82, rfl⟩
abbrev main_c_11 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_12 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_v52 : Ref sig .tc := ⟨.hbm, 93, rfl⟩
abbrev main_v53 : Ref sig .tc := ⟨.hbm, 94, rfl⟩
abbrev main_c_13 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_14 : Ref sig .tc := ⟨.hbm, 101, rfl⟩
abbrev main_call7_v0 : Ref sig .tc := ⟨.hbm, 102, rfl⟩
abbrev main_call7_v1 : Ref sig .tc := ⟨.hbm, 103, rfl⟩
abbrev main_call7_v2 : Ref sig .tc := ⟨.hbm, 104, rfl⟩
abbrev main_v59 : Ref sig .tc := ⟨.hbm, 105, rfl⟩
abbrev main_v60 : Ref sig .tc := ⟨.hbm, 106, rfl⟩

abbrev nD : Nat := 1
abbrev τ : Topo := Topo.v7x

variable {F : FTy → Type} [FloatOps F]
-- ==== Proof.HSpec.lean ====
/- Hand-written: the recurrence's one step, as scalar functions of the arrays, and the real-number facts it needs. -/
module

public import Idealize.ShloMosaic.Lib.Pipeline.ValueKit

@[expose] public section

noncomputable section

open Idealize.ShloMosaic
open scoped BigOperators

namespace Cert.Step

/-- The projected activations, the lower bounds, the gains, the states. -/
abbrev ZA := (⟨2, ![8224, 9216]⟩ : Shape).Idx → EReal
/-- The lower bounds. -/
abbrev LA := (⟨1, ![1024]⟩ : Shape).Idx → EReal
/-- The gains of both layers. -/
abbrev GA := (⟨2, ![2, 1024]⟩ : Shape).Idx → EReal
/-- The states of both layers. -/
abbrev SA := (⟨5, ![2, 32, 8, 128, 128]⟩ : Shape).Idx → EReal

/-- The logistic function. -/
def sg (x : EReal) : EReal := Ideal.div 1 (1 + Ideal.exp (-x))
/-- A query, through its own logistic. -/
def sw (x : EReal) : EReal := x * sg x
/-- The forget gate, kept away from zero. -/
def fg (l x : EReal) : EReal := max (l + (1 - l) * sg x) (Ideal.ofBits .f32 0x1E3CE508#32)
/-- The key. -/
def kg (l x : EReal) : EReal := (1 - l) * sg (-x)

variable (Z : ZA) (L : LA) (G : GA) (S : SA)

/-- The entry of the projection's row for sequence `b` at lane `i` of head `h` in the part that starts at column `o`. -/
def zat (o : ℕ) (ho : o + 1024 ≤ 9216) (b : Fin 32) (h : Fin 8) (i : Fin 128) : EReal :=
  Z (ix2 ⟨8192 + b, by omega⟩ ⟨o + (h * 128 + i), by omega⟩)
/-- The lower bound at lane `i` of head `h`. -/
def lat (h : Fin 8) (i : Fin 128) : EReal := L (ix1 ⟨h * 128 + i, by omega⟩)
/-- The decay of the state's row `i`. -/
def dec (b : Fin 32) (h : Fin 8) (i : Fin 128) : EReal := Ideal.exp (Ideal.log (fg (lat L h i) (zat Z 1024 (by omega) b h i)))
/-- The key of the state's row `i`. -/
def key (b : Fin 32) (h : Fin 8) (i : Fin 128) : EReal := kg (lat L h i) (zat Z 1024 (by omega) b h i)
/-- The query at row `i`. -/
def qry (b : Fin 32) (h : Fin 8) (i : Fin 128) : EReal := sw (zat Z 2048 (by omega) b h i)
/-- The state after the step. -/
def st (b : Fin 32) (h : Fin 8) (i j : Fin 128) : EReal :=
  dec Z L b h i * S (ix5 1 b h i j) + key Z L b h i * zat Z 3072 (by omega) b h j
/-- What the query reads out of the new state. -/
def rd (b : Fin 32) (h : Fin 8) (j : Fin 128) : EReal := ∑ i : Fin 128, qry Z b h i * st Z L S b h i j
/-- The read-out, normalised over its head, scaled and gated. -/
def yy (b : Fin 32) (h : Fin 8) (j : Fin 128) : EReal :=
  rd Z L S b h j * Ideal.rsqrt (Ideal.div (∑ x : Fin 128, rd Z L S b h x * rd Z L S b h x) (Ideal.ofBits .f32 0x43000000#32)
    + Ideal.ofBits .f32 0x358637BD#32) * G (ix2 1 ⟨h * 128 + j, by omega⟩) * sg (zat Z 4096 (by omega) b h j)

/-- The read-out depends on its coordinates' values alone. -/
theorem yy_congr {b b' : Fin 32} {h h' : Fin 8} {j j' : Fin 128} (eb : (b : ℕ) = b') (eh : (h : ℕ) = h') (ej : (j : ℕ) = j') :
    yy Z L G S b h j = yy Z L G S b' h' j' := by
  obtain rfl := Fin.ext eb; obtain rfl := Fin.ext eh; obtain rfl := Fin.ext ej; rfl
/-- The new state depends on its coordinates' values alone. -/
theorem st_congr {b b' : Fin 32} {h h' : Fin 8} {i i' j j' : Fin 128} (eb : (b : ℕ) = b') (eh : (h : ℕ) = h') (ei : (i : ℕ) = i')
    (ej : (j : ℕ) = j') : st Z L S b h i j = st Z L S b' h' i' j' := by
  obtain rfl := Fin.ext eb; obtain rfl := Fin.ext eh; obtain rfl := Fin.ext ei; obtain rfl := Fin.ext ej; rfl

end Cert.Step
-- ==== Proof.HKern.lean ====
/- What one grid step of the kernel reads, and what its payloads hold. -/
module

public import proofs.«01_k».proof.Proof.Gen.KernelIdeal.Value
public import proofs.«01_k».proof.Proof.HSpec
public import Idealize.ShloMosaic.Lib.Pipeline.ValueKit

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Step

variable (m : (ℓ : Loc nD τ sig) → Buf (Elt Ideal) ℓ) (c : Dev nD)

/-- Every window's block index at every grid point. -/
theorem idx : ∀ t : Fin cfg0.N, win0_0.index t = ![256, 8 + t.val]
    ∧ win0_1.index t = ![256, 16 + t.val]
    ∧ win0_2.index t = ![256, 24 + t.val]
    ∧ win0_3.index t = ![256, 32 + t.val]
    ∧ win0_4.index t = ![t.val, 0, 0]
    ∧ win0_5.index t = ![t.val, 0, 0]
    ∧ win0_6.index t = ![1, 0, t.val, 0, 0]
    ∧ win0_7.index t = ![0, t.val]
    ∧ win0_8.index t = ![1, 0, t.val, 0, 0] :=
  (by decide +kernel : ∀ t : Fin grid0.N, _)

/-- The decays, one column per sequence. -/
theorem pay3_at (v0 : FVec Ideal S32x128 .f32) (v2 : FVec Ideal S1x1x128 .f32) (i : Fin 128) (b : Fin 128) (e : (b : ℕ) < 32) :
    k0_pay3 (F := Ideal) v0 v2 (ix2 i b) = Ideal.exp (Ideal.log (fg (v2 (ix3 0 0 i)) (v0 (ix2 ⟨b, e⟩ i)))) := by
  pointwise [k0_pay3, k0_pay2]
  rw [dif_pos e]
  rfl

/-- The keys, one column per sequence. -/
theorem pay4_at (v0 : FVec Ideal S32x128 .f32) (v2 : FVec Ideal S1x1x128 .f32) (i : Fin 128) (b : Fin 128) (e : (b : ℕ) < 32) :
    k0_pay4 (F := Ideal) v0 v2 (ix2 i b) = kg (v2 (ix3 0 0 i)) (v0 (ix2 ⟨b, e⟩ i)) := by
  pointwise [k0_pay4, k0_pay2]
  rw [dif_pos e, zero_sub]
  rfl

/-- The queries, one column per sequence. -/
theorem pay5_at (v1 : FVec Ideal S32x128 .f32) (i : Fin 128) (b : Fin 128) (e : (b : ℕ) < 32) :
    k0_pay5 (F := Ideal) v1 (ix2 i b) = sw (v1 (ix2 ⟨b, e⟩ i)) := by
  pointwise [k0_pay5]
  rw [dif_pos e]
  rfl

/-- Each window's block, read off its array. -/
theorem blk0 (t : Fin cfg0.N) (n : Fin 8) (en : (n : ℕ) = t.val) (b : Fin 32) (i : Fin 128) :
    iblk m c 0 t (ix2 b i) = zat (m ((c.tc : Thread nD τ).loc main_arg0)) 1024 (by omega) b n i := by
  unfold zat
  blk_point [iblk, V, idx t]
/-- The second window holds the query columns of the head. -/
theorem blk1 (t : Fin cfg0.N) (n : Fin 8) (en : (n : ℕ) = t.val) (b : Fin 32) (i : Fin 128) :
    iblk m c 1 t (ix2 b i) = zat (m ((c.tc : Thread nD τ).loc main_arg0)) 2048 (by omega) b n i := by
  unfold zat
  blk_point [iblk, V, idx t]
/-- The third window holds the value columns of the head. -/
theorem blk2 (t : Fin cfg0.N) (n : Fin 8) (en : (n : ℕ) = t.val) (b : Fin 32) (i : Fin 128) :
    iblk m c 2 t (ix2 b i) = zat (m ((c.tc : Thread nD τ).loc main_arg0)) 3072 (by omega) b n i := by
  unfold zat
  blk_point [iblk, V, idx t]
/-- The fourth window holds the output gate columns of the head. -/
theorem blk3 (t : Fin cfg0.N) (n : Fin 8) (en : (n : ℕ) = t.val) (b : Fin 32) (i : Fin 128) :
    iblk m c 3 t (ix2 b i) = zat (m ((c.tc : Thread nD τ).loc main_arg0)) 4096 (by omega) b n i := by
  unfold zat
  blk_point [iblk, V, idx t]
/-- The seventh window holds the head's state of every sequence. -/
theorem blk6 (t : Fin cfg0.N) (n : Fin 8) (en : (n : ℕ) = t.val) (b : Fin 32) (i j : Fin 128) :
    iblk m c 6 t (ix5 0 b 0 i j) = m ((c.tc : Thread nD τ).loc main_arg3) (ix5 1 b n i j) := by
  blk_point [iblk, V, idx t]
/-- The fifth window holds the head's lower bounds. -/
theorem blk4 (t : Fin cfg0.N) (n : Fin 8) (en : (n : ℕ) = t.val) (i : Fin 128) :
    iblk m c 4 t (ix3 0 0 i) = lat (m ((c.tc : Thread nD τ).loc main_arg1)) n i := by
  unfold lat
  blk_point [iblk, idx t]
/-- The sixth window holds the head's gains. -/
theorem blk5 (t : Fin cfg0.N) (n : Fin 8) (en : (n : ℕ) = t.val) (i : Fin 128) :
    iblk m c 5 t (ix3 0 0 i) = m ((c.tc : Thread nD τ).loc main_arg2) (ix2 1 ⟨n * 128 + i, by omega⟩) := by
  blk_point [iblk, idx t]

/-- One entry of one sequence's new state. -/
theorem row8 (t : Fin cfg0.N) (n : Fin 8) (en : (n : ℕ) = t.val) (b : Fin 32) (i j : Fin 128)
    (A B : FVec Ideal S128x128 .f32)
    (p3 : ∀ (i b : Fin 128) (e : (b : ℕ) < 32), A (ix2 i b) = Ideal.exp (Ideal.log (fg (iblk m c 4 t (ix3 0 0 i)) (iblk m c 0 t (ix2 ⟨b, e⟩ i)))))
    (p4 : ∀ (i b : Fin 128) (e : (b : ℕ) < 32), B (ix2 i b) = kg (iblk m c 4 t (ix3 0 0 i)) (iblk m c 0 t (ix2 ⟨b, e⟩ i)))
    (k : Fin 128) (k' : Fin 32) (i' j' : Fin 128) (ek : (k : ℕ) = b) (ek' : (k' : ℕ) = b) (ei : (i' : ℕ) = i) (ej : (j' : ℕ) = j) :
    A (ix2 i' k) * iblk m c 6 t (ix5 0 k' 0 i' j') + B (ix2 i' k) * iblk m c 2 t (ix2 k' j')
      = st (m ((c.tc : Thread nD τ).loc main_arg0)) (m ((c.tc : Thread nD τ).loc main_arg1)) (m ((c.tc : Thread nD τ).loc main_arg3)) b n i j := by
  obtain rfl : k' = b := Fin.ext ek'
  obtain rfl : i' = i := Fin.ext ei
  obtain rfl : j' = j := Fin.ext ej
  have eb : (k : ℕ) < 32 := by omega
  have ek2 : (⟨k, eb⟩ : Fin 32) = k' := Fin.ext ek
  rw [p3 _ _ eb, p4 _ _ eb, ek2, blk0 m c t n en, blk2 m c t n en, blk4 m c t n en, blk6 m c t n en]
  rfl

set_option maxHeartbeats 4000000 in
/-- The rows of the read-out, put under one another. -/
theorem pay120_at (r0 r1 r2 r3 r4 r5 r6 r7 r8 r9 r10 r11 r12 r13 r14 r15 r16 r17 r18 r19 r20 r21 r22 r23 r24 r25 r26 r27 r28 r29 r30 : FVec Ideal S1x128 .f32) (r31 : FVec Ideal S128x128 .f32) (W : Fin 32 → Fin 128 → EReal)
    (g0 : ∀ x : Fin 128, r0 (ix2 0 x) = W 0 x)
    (g1 : ∀ x : Fin 128, r1 (ix2 0 x) = W 1 x)
    (g2 : ∀ x : Fin 128, r2 (ix2 0 x) = W 2 x)
    (g3 : ∀ x : Fin 128, r3 (ix2 0 x) = W 3 x)
    (g4 : ∀ x : Fin 128, r4 (ix2 0 x) = W 4 x)
    (g5 : ∀ x : Fin 128, r5 (ix2 0 x) = W 5 x)
    (g6 : ∀ x : Fin 128, r6 (ix2 0 x) = W 6 x)
    (g7 : ∀ x : Fin 128, r7 (ix2 0 x) = W 7 x)
    (g8 : ∀ x : Fin 128, r8 (ix2 0 x) = W 8 x)
    (g9 : ∀ x : Fin 128, r9 (ix2 0 x) = W 9 x)
    (g10 : ∀ x : Fin 128, r10 (ix2 0 x) = W 10 x)
    (g11 : ∀ x : Fin 128, r11 (ix2 0 x) = W 11 x)
    (g12 : ∀ x : Fin 128, r12 (ix2 0 x) = W 12 x)
    (g13 : ∀ x : Fin 128, r13 (ix2 0 x) = W 13 x)
    (g14 : ∀ x : Fin 128, r14 (ix2 0 x) = W 14 x)
    (g15 : ∀ x : Fin 128, r15 (ix2 0 x) = W 15 x)
    (g16 : ∀ x : Fin 128, r16 (ix2 0 x) = W 16 x)
    (g17 : ∀ x : Fin 128, r17 (ix2 0 x) = W 17 x)
    (g18 : ∀ x : Fin 128, r18 (ix2 0 x) = W 18 x)
    (g19 : ∀ x : Fin 128, r19 (ix2 0 x) = W 19 x)
    (g20 : ∀ x : Fin 128, r20 (ix2 0 x) = W 20 x)
    (g21 : ∀ x : Fin 128, r21 (ix2 0 x) = W 21 x)
    (g22 : ∀ x : Fin 128, r22 (ix2 0 x) = W 22 x)
    (g23 : ∀ x : Fin 128, r23 (ix2 0 x) = W 23 x)
    (g24 : ∀ x : Fin 128, r24 (ix2 0 x) = W 24 x)
    (g25 : ∀ x : Fin 128, r25 (ix2 0 x) = W 25 x)
    (g26 : ∀ x : Fin 128, r26 (ix2 0 x) = W 26 x)
    (g27 : ∀ x : Fin 128, r27 (ix2 0 x) = W 27 x)
    (g28 : ∀ x : Fin 128, r28 (ix2 0 x) = W 28 x)
    (g29 : ∀ x : Fin 128, r29 (ix2 0 x) = W 29 x)
    (g30 : ∀ x : Fin 128, r30 (ix2 0 x) = W 30 x)
    (g31 : ∀ x : Fin 128, ∑ d : Fin 128, r31 (ix2 d x) = W 31 x) (b : Fin 32) (x : Fin 128) :
    k0_pay120 (F := Ideal) r0 r1 r2 r3 r4 r5 r6 r7 r8 r9 r10 r11 r12 r13 r14 r15 r16 r17 r18 r19 r20 r21 r22 r23 r24 r25 r26 r27 r28 r29 r30 r31 (ix2 b x) = W b x := by
  fin_cases b
  all_goals pointwise [k0_pay120]
  · exact g0 x
  · exact g1 x
  · exact g2 x
  · exact g3 x
  · exact g4 x
  · exact g5 x
  · exact g6 x
  · exact g7 x
  · exact g8 x
  · exact g9 x
  · exact g10 x
  · exact g11 x
  · exact g12 x
  · exact g13 x
  · exact g14 x
  · exact g15 x
  · exact g16 x
  · exact g17 x
  · exact g18 x
  · exact g19 x
  · exact g20 x
  · exact g21 x
  · exact g22 x
  · exact g23 x
  · exact g24 x
  · exact g25 x
  · exact g26 x
  · exact g27 x
  · exact g28 x
  · exact g29 x
  · exact g30 x
  · exact g31 x

/-- One entry of one sequence's read-out. -/
theorem row7 (t : Fin cfg0.N) (n : Fin 8) (en : (n : ℕ) = t.val) (b : Fin 32) (j : Fin 128)
    (A B C : FVec Ideal S128x128 .f32)
    (p3 : ∀ (i b : Fin 128) (e : (b : ℕ) < 32), A (ix2 i b) = Ideal.exp (Ideal.log (fg (iblk m c 4 t (ix3 0 0 i)) (iblk m c 0 t (ix2 ⟨b, e⟩ i)))))
    (p4 : ∀ (i b : Fin 128) (e : (b : ℕ) < 32), B (ix2 i b) = kg (iblk m c 4 t (ix3 0 0 i)) (iblk m c 0 t (ix2 ⟨b, e⟩ i)))
    (p5 : ∀ (i b : Fin 128) (e : (b : ℕ) < 32), C (ix2 i b) = sw (iblk m c 1 t (ix2 ⟨b, e⟩ i)))
    (k : Fin 128) (k' : Fin 32) (ek : (k : ℕ) = b) (ek' : (k' : ℕ) = b) :
    ∑ i : Fin 128, C (ix2 i k) * (A (ix2 i k) * iblk m c 6 t (ix5 0 k' 0 i j) + B (ix2 i k) * iblk m c 2 t (ix2 k' j))
      = rd (m ((c.tc : Thread nD τ).loc main_arg0)) (m ((c.tc : Thread nD τ).loc main_arg1)) (m ((c.tc : Thread nD τ).loc main_arg3)) b n j := by
  refine Finset.sum_congr rfl fun i _ => ?_
  have eb : (k : ℕ) < 32 := by omega
  have ek2 : (⟨k, eb⟩ : Fin 32) = b := Fin.ext ek
  rw [row8 m c t n en b i j A B p3 p4 k k' i j ek ek' rfl rfl, p5 _ _ eb, ek2, blk1 m c t n en]
  rfl

/-- The read-out, normalised, scaled and gated. -/
theorem out7 (t : Fin cfg0.N) (n : Fin 8) (en : (n : ℕ) = t.val) (R : FVec Ideal S32x128 .f32)
    (g : ∀ (b : Fin 32) (x : Fin 128), R (ix2 b x) = rd (m ((c.tc : Thread nD τ).loc main_arg0)) (m ((c.tc : Thread nD τ).loc main_arg1)) (m ((c.tc : Thread nD τ).loc main_arg3)) b n x)
    (b : Fin 32) (j : Fin 128) :
    k0_pay1 (F := Ideal) (k0_pay121 R) (k0_pay122 (iblk m c 5 t)) (iblk m c 3 t) (ix2 b j)
      = yy (m ((c.tc : Thread nD τ).loc main_arg0)) (m ((c.tc : Thread nD τ).loc main_arg1)) (m ((c.tc : Thread nD τ).loc main_arg2)) (m ((c.tc : Thread nD τ).loc main_arg3)) b n j := by
  pointwise [k0_pay1, k0_pay121, k0_pay122]
  simp only [g]
  rw [blk3 m c t n en, blk5 m c t n en]
  rfl

end Cert.KernelIdeal.Value
-- ==== Proof.HState.lean ====
/- The block of the new state that one grid step leaves. -/
module

public import proofs.«01_k».proof.Proof.Gen.KernelIdeal.Value
public import proofs.«01_k».proof.Proof.HKern
public import Idealize.ShloMosaic.Lib.Pipeline.ValueKit

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Step

variable (m : (ℓ : Loc nD τ sig) → Buf (Elt Ideal) ℓ) (c : Dev nD)

set_option maxHeartbeats 4000000 in
/-- The state a grid point leaves for its head. -/
theorem point8 (t : Fin cfg0.N) (n : Fin 8) (en : (n : ℕ) = t.val) (b : Fin 32) (i j : Fin 128)
    (y : S1x32x1x128x128.Idx) (e1 : (y 1 : ℕ) = b) (e3 : (y 3 : ℕ) = i) (e4 : (y 4 : ℕ) = j) :
    (outsAt0 m c t).2 y = st (m ((c.tc : Thread nD τ).loc main_arg0)) (m ((c.tc : Thread nD τ).loc main_arg1)) (m ((c.tc : Thread nD τ).loc main_arg3)) b n i j := by
  unfold outsAt0
  dsimp only
  frame_out
  have p3 := pay3_at (iblk m c 0 t) (iblk m c 4 t)
  have p4 := pay4_at (iblk m c 0 t) (iblk m c 4 t)
  unfold k0_pay7
  generalize k0_pay3 (iblk m c 0 t) (iblk m c 4 t) = A at p3 ⊢
  generalize k0_pay4 (iblk m c 0 t) (iblk m c 4 t) = B at p4 ⊢
  canon_tiles x h
  all_goals
    pointwise [k0_pay9, k0_pay8, k0_pay7, k0_pay6, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119]
    refine row8 m c t n en b i j A B p3 p4 _ _ (x 3) (x 4) ?_ ?_ ?_ ?_
    all_goals first | omega | (rw [← e1, h1]; simp; omega) | skip

end Cert.KernelIdeal.Value
-- ==== Proof.HOut.lean ====
/- The block of the read-out that one grid step leaves. -/
module

public import proofs.«01_k».proof.Proof.Gen.KernelIdeal.Value
public import proofs.«01_k».proof.Proof.HKern
public import Idealize.ShloMosaic.Lib.Pipeline.ValueKit

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Step

variable (m : (ℓ : Loc nD τ sig) → Buf (Elt Ideal) ℓ) (c : Dev nD)

set_option maxHeartbeats 8000000 in
/-- What a grid point leaves of its head's read-out. -/
theorem point7 (t : Fin cfg0.N) (n : Fin 8) (en : (n : ℕ) = t.val) (b : Fin 32) (j : Fin 128) :
    (outsAt0 m c t).1 (ix2 b j) = yy (m ((c.tc : Thread nD τ).loc main_arg0)) (m ((c.tc : Thread nD τ).loc main_arg1)) (m ((c.tc : Thread nD τ).loc main_arg2)) (m ((c.tc : Thread nD τ).loc main_arg3)) b n j := by
  unfold outsAt0
  dsimp only
  frame_out
  have p3 := pay3_at (iblk m c 0 t) (iblk m c 4 t)
  have p4 := pay4_at (iblk m c 0 t) (iblk m c 4 t)
  have p5 := pay5_at (iblk m c 1 t)
  unfold k0_pay7
  generalize k0_pay3 (iblk m c 0 t) (iblk m c 4 t) = A at p3 ⊢
  generalize k0_pay4 (iblk m c 0 t) (iblk m c 4 t) = B at p4 ⊢
  generalize k0_pay5 (iblk m c 1 t) = C at p5 ⊢
  refine out7 m c t n en _ (fun b x => ?_) b j
  refine pay120_at _ _ _ _ _ _ _ _ _ _ _ _ _ _ _ _ _ _ _ _ _ _ _ _ _ _ _ _ _ _ _ _ (fun b x => rd (m ((c.tc : Thread nD τ).loc main_arg0)) (m ((c.tc : Thread nD τ).loc main_arg1)) (m ((c.tc : Thread nD τ).loc main_arg3)) b n x)
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ b x
  all_goals
    intro x
    open_payloads
    pointwise
    exact row7 m c t n en _ x A B C p3 p4 p5 _ _ rfl rfl

end Cert.KernelIdeal.Value
-- ==== Proof.HArr.lean ====
module

public import proofs.«01_k».proof.Proof.HState
public import proofs.«01_k».proof.Proof.HOut

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Step

variable (m : (ℓ : Loc nD τ sig) → Buf (Elt Ideal) ℓ) (c : Dev nD)

/-- The gated read-outs as one array. -/
def W7 : S32x1024.Idx → EReal := fun i =>
  yy (m ((c.tc : Thread nD τ).loc main_arg0)) (m ((c.tc : Thread nD τ).loc main_arg1)) (m ((c.tc : Thread nD τ).loc main_arg2)) (m ((c.tc : Thread nD τ).loc main_arg3))
    (i 0) ⟨(i 1).val / 128, by have := (i 1).isLt; change (i 1).val < 1024 at this; omega⟩ ⟨(i 1).val % 128, by omega⟩

/-- The new states as one array: the second layer's from the step, the first layer's as they came in. -/
def W8 : S2x32x8x128x128.Idx → EReal := fun i =>
  if 0 < (i 0 : ℕ) then
    st (m ((c.tc : Thread nD τ).loc main_arg0)) (m ((c.tc : Thread nD τ).loc main_arg1)) (m ((c.tc : Thread nD τ).loc main_arg3))
      (i 1) (i 2) (i 3) (i 4)
  else m ((c.tc : Thread nD τ).loc main_arg4) i

/-- The first result after the run. -/
theorem final7 : (dats m 0 c).arrAt 7 cfg0.N = W7 m c := by
  refine (dats m 0 c).arrAt_eq_of_covers 7 _ (by decide +kernel) fun t _ y => ?_
  blk_simp
  rw [after0_7]
  have e : y = (ix2 (y 0) (y 1) : S32x128.Idx) := by funext a; fin_cases a <;> rfl
  rw [e]
  refine (point7 m c t ⟨t, t.isLt⟩ rfl (y 0) (y 1)).trans ?_
  unfold W7
  have l1 : (y 1 : ℕ) < 128 := (y 1).isLt
  refine yy_congr _ _ _ _ ?_ ?_ ?_
  · blk_simp [idx t]
  · blk_simp [idx t]
    change t.val = (t.val * 128 + (y 1).val) / 128
    omega
  · blk_simp [idx t]
    change (y 1).val = (t.val * 128 + (y 1).val) % 128
    omega

/-- The second result after the run. -/
theorem final8 : (dats m 0 c).arrAt 8 cfg0.N = W8 m c := by
  have z : V m c (Pipeline.arrRef spec0 8) = m ((c.tc : Thread nD τ).loc main_arg4) := by
    entry_read
    rfl
  have f : (dats m 0 c).arrAt 8 cfg0.N = fun i : S2x32x8x128x128.Idx => if 0 < (i 0 : ℕ) then W8 m c i else V m c (Pipeline.arrRef spec0 8) i := by
    refine (dats m 0 c).arrAt_eq_of_coversWhere 8 _ (fun β => 0 < β 0) (by decide +kernel) (fun t hf y => ?_)
      (fun j => by blk_simp [Pipeline.Window.cell_apply]; omega)
    blk_simp
    rw [after0_8]
    unfold W8
    have l0 : (y 0 : ℕ) < 1 := (y 0).isLt
    have l2 : (y 2 : ℕ) < 1 := (y 2).isLt
    rw [if_pos (by blk_simp [idx t]; try omega)]
    refine (point8 m c t ⟨t, t.isLt⟩ rfl (y 1) (y 3) (y 4) y rfl rfl rfl).trans ?_
    refine st_congr _ _ _ ?_ ?_ ?_ ?_
    all_goals blk_simp [idx t]
  rw [f, z]
  funext i
  unfold W8
  split <;> rfl

end Cert.KernelIdeal.Value
-- ==== Proof.HReal.lean ====
/- Hand-written: where the inputs are numbers, the step's intermediate values are numbers too, and the two orders of summing agree. -/
module

public import proofs.«01_k».proof.Proof.HSpec
public import Idealize.ShloMosaic.Lib.Pipeline.ValueKit

@[expose] public section

noncomputable section

open Idealize.ShloMosaic
open scoped BigOperators

namespace Cert.Step

/-- An extended real that is a number. -/
def Num (x : EReal) : Prop := ∃ r : ℝ, x = r

/-- An extended real that is neither infinity is a number. -/
theorem num_of {x : EReal} (h1 : x ≠ ⊥) (h2 : x ≠ ⊤) : Num x := ⟨x.toReal, (EReal.coe_toReal h2 h1).symm⟩

/-- A sum of numbers is a number. -/
theorem Num.add {x y : EReal} (h : Num x) (k : Num y) : Num (x + y) := by
  obtain ⟨a, rfl⟩ := h; obtain ⟨b, rfl⟩ := k; exact ⟨a + b, (EReal.coe_add a b).symm⟩
/-- A product of numbers is a number. -/
theorem Num.mul {x y : EReal} (h : Num x) (k : Num y) : Num (x * y) := by
  obtain ⟨a, rfl⟩ := h; obtain ⟨b, rfl⟩ := k; exact ⟨a * b, (EReal.coe_mul a b).symm⟩
/-- A difference of numbers is a number. -/
theorem Num.sub {x y : EReal} (h : Num x) (k : Num y) : Num (x - y) := by
  obtain ⟨a, rfl⟩ := h; obtain ⟨b, rfl⟩ := k; exact ⟨a - b, (EReal.coe_sub a b).symm⟩
/-- The negative of a number is a number. -/
theorem Num.neg {x : EReal} (h : Num x) : Num (-x) := by
  obtain ⟨a, rfl⟩ := h; exact ⟨-a, (EReal.coe_neg a).symm⟩
/-- One is a number. -/
theorem num_one : Num 1 := ⟨1, rfl⟩

/-- The logistic function of a number is a number. -/
theorem Num.sg {x : EReal} (h : Num x) : Num (sg x) := by
  obtain ⟨a, rfl⟩ := h; exact ⟨_, Ideal.logistic_coe a⟩
/-- The swish of a number is a number. -/
theorem Num.sw {x : EReal} (h : Num x) : Num (sw x) := h.mul h.sg
/-- The key of numbers is a number. -/
theorem Num.kg {l x : EReal} (hl : Num l) (h : Num x) : Num (kg l x) := (num_one.sub hl).mul h.neg.sg

/-- The floor of the forget gate is a positive number. -/
theorem floor_pos : ∃ r : ℝ, 0 < r ∧ Ideal.ofBits .f32 0x1E3CE508#32 = (r : EReal) := by
  have e1 : (BitVec.extractLsb' 31 1 (0x1E3CE508#32) == 1#1) = false := by decide
  have e2 : (BitVec.extractLsb' 23 8 (0x1E3CE508#32)).toNat = 60 := by decide
  refine ⟨_, ?_, by
    unfold Ideal.ofBits Ideal.ieee
    simp only [Nat.reduceAdd, e1, e2]
    rw [if_neg (by decide), if_neg (by decide)]⟩
  simp only [Bool.false_eq_true, if_false, one_mul]
  positivity

/-- The forget gate is a positive number. -/
theorem fg_pos {l x : EReal} (hl : Num l) (h : Num x) : ∃ r : ℝ, 0 < r ∧ fg l x = (r : EReal) := by
  obtain ⟨q, hq, eq⟩ := floor_pos
  obtain ⟨a, ea⟩ := hl.add ((num_one.sub hl).mul h.sg)
  refine ⟨max a q, lt_max_of_lt_right hq, ?_⟩
  unfold fg
  rw [eq, ea]
  exact (EReal.coe_strictMono.monotone.map_max).symm

/-- The logarithm of the forget gate is a number. -/
theorem log_fg {l x : EReal} (hl : Num l) (h : Num x) : Num (Ideal.log (fg l x)) := by
  obtain ⟨r, hr, e⟩ := fg_pos hl h
  rw [e, Ideal.log_coe, if_neg (not_le.mpr hr)]
  exact ⟨_, rfl⟩

/-- The decay between a token and itself is one. -/
theorem self_decay {l x : EReal} (hl : Num l) (h : Num x) : Ideal.exp (Ideal.log (fg l x) - Ideal.log (fg l x)) = 1 := by
  obtain ⟨r, e⟩ := log_fg hl h
  rw [e, ← EReal.coe_sub, sub_self, Ideal.exp_coe, Real.exp_zero]
  rfl

/-- The decay is a number. -/
theorem Num.decay {l x : EReal} (hl : Num l) (h : Num x) : Num (Ideal.exp (Ideal.log (fg l x))) := by
  obtain ⟨r, e⟩ := log_fg hl h
  rw [e]
  exact ⟨_, Ideal.exp_coe r⟩

/-- A sum of numbers, read among the extended reals. -/
theorem coe_sum {n : ℕ} (f : Fin n → ℝ) : ∑ d, ((f d : ℝ) : EReal) = ((∑ d, f d : ℝ) : EReal) :=
  (map_sum (⟨⟨Real.toEReal, rfl⟩, EReal.coe_add⟩ : ℝ →+ EReal) f Finset.univ).symm

/-- Reading the new state out, against reading out the old state and the new token apart. -/
theorem split_read {n : ℕ} (q f k S : Fin n → EReal) (v : EReal) (hq : ∀ d, Num (q d)) (hf : ∀ d, Num (f d)) (hk : ∀ d, Num (k d))
    (hS : ∀ d, Num (S d)) (hv : Num v) :
    v * ∑ d, k d * (q d * 1) + ∑ d, S d * (q d * f d) = ∑ d, q d * (f d * S d + k d * v) := by
  choose q' eq using hq
  choose f' ef using hf
  choose k' ek using hk
  choose S' eS using hS
  obtain ⟨v', rfl⟩ := hv
  simp only [eq, ef, ek, eS, mul_one]
  simp only [← EReal.coe_mul, ← EReal.coe_add, coe_sum]
  congr 1
  rw [Finset.mul_sum, ← Finset.sum_add_distrib]
  exact Finset.sum_congr rfl fun d _ => by ring

end Cert.Step
-- ==== Proof.HRef.lean ====
module

public import proofs.«01_k».proof.Proof.Gen.ReferenceIdeal.Run
public import proofs.«01_k».proof.Proof.HReal
public import Idealize.ShloMosaic.Lib.Pipeline.ValueKit

@[expose] public section

set_option maxRecDepth 16384

noncomputable section

open Idealize.ShloMosaic Idealize.ShloMosaic.TcCoe Idealize.SL.Sem
open scoped BigOperators

namespace Cert.ReferenceIdeal.Value

open Cert.ReferenceIdeal Cert.ReferenceIdeal.Gen Cert.Step

variable (m : (ℓ : Loc nD τ sig) → Buf (Elt Ideal) ℓ) (c : Dev nD)

/-- A running sum whose window is one element long is the element itself. -/
theorem window_one (X : FVec Ideal S32x1x8x128 .f32) (h) (hu) (j : S32x1x8x128.Idx) :
    Host.reduceWindowAdd ![1, 1, 1, 1] ![1, 1, 1, 1] ![0, 0, 0, 0] ![0, 0, 0, 0] X
      (broadcastInDim S_ ![] bcast_S_S_ (constant (F := Ideal) S_ .f32 0x00000000#32)) h hu j = X j := by
  unfold Host.reduceWindowAdd
  rw [Ideal.hostReduceWindowAdd_def]
  unfold Ideal.hostReduceWindowAdd Host.reduceWindow
  have hl : List.finRange (⟨4, ![1, 1, 1, 1]⟩ : Shape).numel = [⟨0, by decide⟩] := by decide
  have hz : ∀ i, (broadcastInDim S_ ![] bcast_S_S_ (constant (F := Ideal) S_ .f32 0x00000000#32) : FVec Ideal S_ .f32) i = (0 : EReal) := by
    intro i; pointwise
  dsimp only
  erw [hl]
  rw [List.foldl_cons, List.foldl_nil, hz]
  have hw : ∀ a, ((⟨4, ![1, 1, 1, 1]⟩ : Shape).rowMajor.symm ⟨0, by decide⟩ a).val = 0 := by decide
  have key : ∀ a : Fin 4, (j a).val * (![1, 1, 1, 1] : Fin 4 → ℕ) a
      + ((⟨4, ![1, 1, 1, 1]⟩ : Shape).rowMajor.symm ⟨0, by decide⟩ a).val - (![0, 0, 0, 0] : Fin 4 → ℕ) a = (j a).val := by
    intro a; rw [hw a]; fin_cases a <;> simp
  erw [dif_pos, zero_add]
  · congr 1; funext a; apply Fin.ext; exact key a
  · intro a
    refine ⟨by fin_cases a <;> exact Nat.zero_le _, ?_⟩
    exact lt_of_eq_of_lt (key a) (j a).isLt

/-- `window_one`, of whole arrays. -/
theorem window_one' (X : FVec Ideal S32x1x8x128 .f32) (h) (hu) :
    Host.reduceWindowAdd ![1, 1, 1, 1] ![1, 1, 1, 1] ![0, 0, 0, 0] ![0, 0, 0, 0] X
      (broadcastInDim S_ ![] bcast_S_S_ (constant (F := Ideal) S_ .f32 0x00000000#32)) h hu = X :=
  funext (window_one X h hu)

/-- What the call needs of its inputs: the columns it computes with, the lower bounds and the old states are numbers. -/
structure Nums (Z : ZA) (L : LA) (S : SA) : Prop where
  gate : ∀ b h i, Num (zat Z 1024 (by omega) b h i)
  query : ∀ b h i, Num (zat Z 2048 (by omega) b h i)
  value : ∀ b h i, Num (zat Z 3072 (by omega) b h i)
  bound : ∀ h i, Num (lat L h i)
  state : ∀ (b : Fin 32) (h : Fin 8) (i j : Fin 128), Num (S (ix5 1 b h i j))

/-- The reference's new states at the layer the call works on. -/
theorem refS_new (N : Nums (m ((c.tc : Thread nD τ).loc main_arg0)) (m ((c.tc : Thread nD τ).loc main_arg1)) (m ((c.tc : Thread nD τ).loc main_arg3)))
    (b : Fin 32) (h : Fin 8) (i j : Fin 128) :
    res_main_v104 m c (ix5 1 b h i j) = st (m ((c.tc : Thread nD τ).loc main_arg0)) (m ((c.tc : Thread nD τ).loc main_arg1)) (m ((c.tc : Thread nD τ).loc main_arg3)) b h i j := by
  unfold res_main_v104
  erw [window_one']
  pointwise
  rw [Fin.sum_univ_one]
  have sd := self_decay (N.bound h i) (N.gate b h i)
  unfold fg sg lat zat at sd
  rw [sd, mul_one]
  rfl

/-- The reference's states at the layer before: the ones that came in. -/
theorem refS_kept (b : Fin 32) (h : Fin 8) (i j : Fin 128) :
    res_main_v104 m c (ix5 0 b h i j) = m ((c.tc : Thread nD τ).loc main_arg4) (ix5 0 b h i j) := by
  unfold res_main_v104
  erw [window_one']
  pointwise

/-- The reference's read-out, the old state and the new token apart. -/
def rdr (Z : ZA) (L : LA) (S : SA) (b : Fin 32) (h : Fin 8) (j : Fin 128) : EReal :=
  zat Z 3072 (by omega) b h j * ∑ d : Fin 128, key Z L b h d * (qry Z b h d *
      Ideal.exp (Ideal.log (fg (lat L h d) (zat Z 1024 (by omega) b h d)) - Ideal.log (fg (lat L h d) (zat Z 1024 (by omega) b h d))))
    + ∑ d : Fin 128, S (ix5 1 b h d j) * (qry Z b h d * dec Z L b h d)

/-- The reference's read-out, split over old state and new key, is the read-out of the new state. -/
theorem rdr_eq {Z : ZA} {L : LA} {S : SA} (N : Nums Z L S) (b : Fin 32) (h : Fin 8) (j : Fin 128) : rdr Z L S b h j = rd Z L S b h j := by
  unfold rdr rd
  simp only [fun d => self_decay (N.bound h d) (N.gate b h d)]
  exact split_read _ _ _ _ _ (fun d => (N.query b h d).sw) (fun d => Num.decay (N.bound h d) (N.gate b h d))
    (fun d => Num.kg (N.bound h d) (N.gate b h d)) (fun d => N.state b h d j) (N.value b h j)

/-- The reference's read-out. -/
theorem refY (N : Nums (m ((c.tc : Thread nD τ).loc main_arg0)) (m ((c.tc : Thread nD τ).loc main_arg1)) (m ((c.tc : Thread nD τ).loc main_arg3)))
    (b : Fin 32) (h : Fin 8) (j : Fin 128) :
    res_main_v99 m c (ix2 b ⟨h * 128 + j, by omega⟩) = yy (m ((c.tc : Thread nD τ).loc main_arg0)) (m ((c.tc : Thread nD τ).loc main_arg1)) (m ((c.tc : Thread nD τ).loc main_arg2)) (m ((c.tc : Thread nD τ).loc main_arg3)) b h j := by
  unfold res_main_v99
  erw [window_one']
  pointwise
  have hc : Scalar.select (IntOp.cmpi CmpIPredicate.sge (IntOp.addi 0#32 0#32) 0#32) 1#1 0#1 = 1#1 := by decide
  have h1 : (h.val * 128 + j.val) / 128 = h := by omega
  have h2 : (h.val * 128 + j.val) % 128 = j := by omega
  have hs : ∀ a b : EReal, Scalar.select 1#1 a b = a := fun a b => rfl
  simp only [Fin.sum_univ_one, hc, hs, h1, h2, Fin.eta]
  have r := fun x => rdr_eq N b h x
  unfold yy
  simp only [← r]
  rfl

end Cert.ReferenceIdeal.Value
-- ==== Proof.HPre.lean ====
/- Hand-written: what the precondition says, entry by entry. -/
module

public import proofs.«01_k».proof.Proof.Gen.Pre_numbers_finite
public import proofs.«01_k».proof.Proof.HReal
public import Idealize.ShloMosaic.Lib.ReduceAll
public import Idealize.ShloMosaic.Lib.Pipeline.ValueKit

@[expose] public section

set_option maxRecDepth 16384

noncomputable section

open Idealize.ShloMosaic
open scoped BigOperators

namespace Cert.Step

open Cert.Pre_numbers_finite

/-- A word that is both above minus infinity and below infinity is a number. -/
theorem num_of_test {x : EReal} (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : Num x := by
  obtain ⟨e1, e2⟩ := IntOp.andi_eq_one.mp h
  have l1 : Ideal.ofBits .f32 0xFF800000#32 < x := by
    by_contra hn
    have : FloatOps.cmpf (F := Ideal) (φ := .f32) .ogt x (Ideal.ofBits .f32 0xFF800000#32) = 0#1 := by
      change BitVec.ofBool (decide (_ < _)) = _
      rw [decide_eq_false hn]; rfl
    rw [this] at e1
    exact absurd e1 (by decide)
  have l2 : x < Ideal.ofBits .f32 0x7F800000#32 := by
    by_contra hn
    have : FloatOps.cmpf (F := Ideal) (φ := .f32) .olt x (Ideal.ofBits .f32 0x7F800000#32) = 0#1 := by
      change BitVec.ofBool (decide (_ < _)) = _
      rw [decide_eq_false hn]; rfl
    rw [this] at e2
    exact absurd e2 (by decide)
  exact num_of (ne_bot_of_gt l1) (ne_top_of_lt l2)

/-- The precondition, read. -/
theorem pre_read (Z : ZA) (L : LA) (G : GA) (S P : SA) (h : fn (F := Ideal) Z L G S P = fun _ => 1#1) :
    (∀ (b : Fin 32) (i : Fin 3072), Num (Z (ix2 ⟨8192 + b, by omega⟩ ⟨1024 + i, by omega⟩)))
    ∧ (∀ i : Fin 1024, Num (L (ix1 i)))
    ∧ (∀ (b : Fin 32) (n : Fin 8) (i j : Fin 128), Num (S (ix5 1 b n i j))) := by
  have e := congrFun h ix0
  dsimp only [fn, fn_part1] at e
  have sub : Subsingleton S_.Idx := ⟨fun a b => by funext x; exact x.elim0⟩
  obtain ⟨e12, e3⟩ := IntOp.andi_eq_one.mp e
  obtain ⟨e1, e2⟩ := IntOp.andi_eq_one.mp e12
  refine ⟨fun b i => ?_, fun i => ?_, fun b n i j => ?_⟩
  · have q := Host.reduce_andi_all _ _ _ _ _ e1 (ix2 b i)
    have r := num_of_test q
    refine Eq.mp (congrArg Num ?_) r
    pointwise
  · have q := Host.reduce_andi_all _ _ _ _ _ e2 (ix1 i)
    exact num_of_test q
  · have q := Host.reduce_andi_all _ _ _ _ _ e3 (ix4 b n i j)
    have r := num_of_test q
    refine Eq.mp (congrArg Num ?_) r
    pointwise

end Cert.Step
-- ==== Proof.HEq.lean ====
/- Hand-written: the kernel's final arrays are the reference's results. -/
module

public import proofs.«01_k».proof.Defs
public import proofs.«01_k».proof.Proof.HArr
public import proofs.«01_k».proof.Proof.HRef
public import proofs.«01_k».proof.Proof.HPre
public import proofs.«01_k».proof.Proof.Gen.Pre_numbers_finite

@[expose] public section

set_option maxRecDepth 16384

noncomputable section

open Idealize.ShloMosaic Idealize.ShloMosaic.TcCoe Idealize.SL.Sem

namespace Cert.Proof

open Cert.Step

/-- The precondition gives every number that the step needs. -/
theorem nums (Z : ZA) (L : LA) (G : GA) (S P : SA) (h : Cert.Pre_numbers_finite.fn (F := Ideal) Z L G S P = fun _ => 1#1) :
    Cert.ReferenceIdeal.Value.Nums Z L S := by
  obtain ⟨hz, hl, hs⟩ := pre_read Z L G S P h
  refine ⟨fun b h i => ?_, fun b h i => ?_, fun b h i => ?_, fun h i => ?_, hs⟩
  · exact hz b ⟨h * 128 + i, by omega⟩
  · have q := hz b ⟨1024 + (h * 128 + i), by omega⟩
    refine Eq.mp (congrArg (fun k => Num (Z (ix2 _ k))) (Fin.ext ?_)) q
    change 1024 + (1024 + (h.val * 128 + i.val)) = 2048 + (h.val * 128 + i.val)
    omega
  · have q := hz b ⟨2048 + (h * 128 + i), by omega⟩
    refine Eq.mp (congrArg (fun k => Num (Z (ix2 _ k))) (Fin.ext ?_)) q
    change 1024 + (2048 + (h.val * 128 + i.val)) = 3072 + (h.val * 128 + i.val)
    omega
  · exact hl ⟨h * 128 + i, by omega⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' gated read-outs are one array. -/
theorem same_y (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (N : Cert.ReferenceIdeal.Value.Nums (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))) :
    Cert.ReferenceIdeal.Value.res_main_v99 m' c = Cert.KernelIdeal.Value.W7 m c := by
  funext i
  have l1 : (i 1 : ℕ) < 1024 := (i 1).isLt
  have q := Cert.ReferenceIdeal.Value.refY m' c N (i 0) ⟨(i 1 : ℕ) / 128, by omega⟩ ⟨(i 1 : ℕ) % 128, by omega⟩
  have e : i = ix2 (i 0) ⟨(i 1 : ℕ) / 128 * 128 + (i 1 : ℕ) % 128, by omega⟩ := by
    funext a
    fin_cases a
    · rfl
    · apply Fin.ext
      change (i 1 : ℕ) = (i 1 : ℕ) / 128 * 128 + (i 1 : ℕ) % 128
      omega
  refine (congrArg _ e).trans (q.trans ?_)
  rw [e0, e1, e2, e3]
  rfl

/-- The two programs' new states are one array. -/
theorem same_state (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (N : Cert.ReferenceIdeal.Value.Nums (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))) :
    Cert.ReferenceIdeal.Value.res_main_v104 m' c = Cert.KernelIdeal.Value.W8 m c := by
  funext i
  have l0 : (i 0 : ℕ) < 2 := (i 0).isLt
  unfold Cert.KernelIdeal.Value.W8
  by_cases h : 0 < (i 0 : ℕ)
  · have e : i = ix5 1 (i 1) (i 2) (i 3) (i 4) := by
      funext a
      fin_cases a
      · apply Fin.ext
        change (i 0 : ℕ) = 1
        omega
      all_goals rfl
    rw [if_pos h]
    refine (congrArg _ e).trans ((Cert.ReferenceIdeal.Value.refS_new m' c N (i 1) (i 2) (i 3) (i 4)).trans ?_)
    rw [e0, e1, e3]
  · have e : i = ix5 0 (i 1) (i 2) (i 3) (i 4) := by
      funext a
      fin_cases a
      · apply Fin.ext
        change (i 0 : ℕ) = 0
        omega
      all_goals rfl
    rw [if_neg h]
    refine (congrArg _ e).trans ((Cert.ReferenceIdeal.Value.refS_kept m' c (i 1) (i 2) (i 3) (i 4)).trans ?_)
    rw [e4]
    exact congrArg _ e.symm

/-- On the same inputs the kernel's two results are the reference's. -/
theorem value : Cert.algebraic_KernelIdeal_ReferenceIdeal_pre_numbers_finite := by
  intro m g m' g' hpre hargs
  have y := fun c => same_y m m' c (hargs c).1 (hargs c).2.1 (hargs c).2.2.1 (hargs c).2.2.2.1
    (by rw [(hargs c).1, (hargs c).2.1, (hargs c).2.2.2.1]; exact nums _ _ _ _ _ (hpre c))
  have s := fun c => same_state m m' c (hargs c).1 (hargs c).2.1 (hargs c).2.2.2.1 (hargs c).2.2.2.2
    (by rw [(hargs c).1, (hargs c).2.1, (hargs c).2.2.2.1]; exact nums _ _ _ _ _ (hpre c))
  refine ⟨fun c => Cert.KernelIdeal.Value.W7 m c, fun c => Cert.KernelIdeal.Value.W8 m c, ?_, ?_⟩
  · refine (θ_run _ _ _).mono (fun r h c => ?_) (Cert.KernelIdeal.Value.run_blocks m g)
    obtain ⟨h7, h8, h0, h1, h2, h3, h4⟩ := h c
    exact ⟨h7.trans (Cert.KernelIdeal.Value.final7 m c), h8.trans (Cert.KernelIdeal.Value.final8 m c), h0, h1, h2, h3, h4⟩
  · refine (θ_run _ _ _).mono (fun r h c => ?_) (Cert.ReferenceIdeal.Value.run m' g')
    obtain ⟨h7, h8, h0, h1, h2, h3, h4⟩ := h c
    exact ⟨h7.trans (y c), h8.trans (s c), h0, h1, h2, h3, h4⟩

end Cert.Proof
-- ==== Proof.MRun.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and scratches the kernel is handed, whole. -/
abbrev tb0 : Memref sig .tc .smem S24 .i32 := Memref.whole main_arg3
abbrev tb1 : Memref sig .tc .smem S24 .i32 := Memref.whole main_arg4
abbrev tb2 : Memref sig .tc .smem S24 .i32 := Memref.whole main_arg5
abbrev sc0 : Memref sig .tc .vmem S2048x1024 .bf16 := Memref.whole cc0_scratch0
abbrev sc1 : Memref sig .tc .vmem S2048x1024 .bf16 := Memref.whole cc0_scratch1

/-- The word of the marks that the body reads at a point, and the word of the row counts. -/
abbrev wf (i : grid0.Coords) (T1 : S24.Idx → Elt F .i32) : Elt F .i32 :=
  View.readAt (Elt F) tb1.view (Rect.unit (s := S24) (k0_off1 i) S1.size (k0_off1_inb i)).toLoadRect T1 (Shape.Idx.first (numel1_S1.symm ▸ Nat.one_pos))
abbrev wr (i : grid0.Coords) (T2 : S24.Idx → Elt F .i32) : Elt F .i32 :=
  View.readAt (Elt F) tb2.view (Rect.unit (s := S24) (k0_off2 i) S1.size (k0_off2_inb i)).toLoadRect T2 (Shape.Idx.first (numel1_S1.symm ▸ Nat.one_pos))

/-- Whether the tile is marked to load its weights. -/
abbrev marked (w : BitVec 32) : Prop := Scalar.cmpi .ne (Scalar.extui (Scalar.cmpi .eq w 1#32)) 0#32 = 1#1

/-- The left and the right half of a cast weight block's columns. -/
abbrev colL : Rect S2048x1024 := Rect.unit (s := S2048x1024) ![0, 0] S2048x512.size inb_S2048x1024_S2048x512_0_0
abbrev colR : Rect S2048x1024 := Rect.unit (s := S2048x1024) ![0, 512] S2048x512.size inb_S2048x1024_S2048x512_0_512

/-- What the body stores into its output block at `k` row steps, last store first: `128 k` rows of the
    gated product of the row block and the two cast weight blocks, and zeros below them. -/
def pieces (k : Fin 9) (x0 : S1024x2048.Idx → Elt F .bf16) (y0 y1 : S2048x1024.Idx → Elt F .bf16) : List (View.Piece (Elt F) S1024x1024 .bf16) :=
  match k with
  | 0 => [⟨Rect.unit (s := S1024x1024) ![0, 0] S1024x1024.size inb_S1024x1024_S1024x1024_0_0, k0_pay14⟩]
  | 1 => [⟨Rect.unit (s := S1024x1024) ![128, 0] S896x1024.size inb_S1024x1024_S896x1024_128_0, k0_pay16⟩,
      ⟨Rect.unit (s := S1024x1024) ![0, 0] S128x1024.size inb_S1024x1024_S128x1024_0_0, k0_pay15 (View.ld x0 (Rect.unit (s := S1024x2048) ![0, 0] S128x2048.size inb_S1024x2048_S128x2048_0_0)) (View.ld y0 colL) (View.ld y1 colL) (View.ld y0 colR) (View.ld y1 colR)⟩]
  | 2 => [⟨Rect.unit (s := S1024x1024) ![256, 0] S768x1024.size inb_S1024x1024_S768x1024_256_0, k0_pay18⟩,
      ⟨Rect.unit (s := S1024x1024) ![0, 0] S256x1024.size inb_S1024x1024_S256x1024_0_0, k0_pay17 (View.ld x0 (Rect.unit (s := S1024x2048) ![0, 0] S256x2048.size inb_S1024x2048_S256x2048_0_0)) (View.ld y0 colL) (View.ld y1 colL) (View.ld y0 colR) (View.ld y1 colR)⟩]
  | 3 => [⟨Rect.unit (s := S1024x1024) ![384, 0] S640x1024.size inb_S1024x1024_S640x1024_384_0, k0_pay2⟩,
      ⟨Rect.unit (s := S1024x1024) ![0, 0] S384x1024.size inb_S1024x1024_S384x1024_0_0, k0_pay1 (View.ld x0 (Rect.unit (s := S1024x2048) ![0, 0] S384x2048.size inb_S1024x2048_S384x2048_0_0)) (View.ld y0 colL) (View.ld y1 colL) (View.ld y0 colR) (View.ld y1 colR)⟩]
  | 4 => [⟨Rect.unit (s := S1024x1024) ![512, 0] S512x1024.size inb_S1024x1024_S512x1024_512_0, k0_pay4⟩,
      ⟨Rect.unit (s := S1024x1024) ![0, 0] S512x1024.size inb_S1024x1024_S512x1024_0_0, k0_pay3 (View.ld x0 (Rect.unit (s := S1024x2048) ![0, 0] S512x2048.size inb_S1024x2048_S512x2048_0_0)) (View.ld y0 colL) (View.ld y1 colL) (View.ld y0 colR) (View.ld y1 colR)⟩]
  | 5 => [⟨Rect.unit (s := S1024x1024) ![640, 0] S384x1024.size inb_S1024x1024_S384x1024_640_0, k0_pay6⟩,
      ⟨Rect.unit (s := S1024x1024) ![0, 0] S640x1024.size inb_S1024x1024_S640x1024_0_0, k0_pay5 (View.ld x0 (Rect.unit (s := S1024x2048) ![0, 0] S640x2048.size inb_S1024x2048_S640x2048_0_0)) (View.ld y0 colL) (View.ld y1 colL) (View.ld y0 colR) (View.ld y1 colR)⟩]
  | 6 => [⟨Rect.unit (s := S1024x1024) ![768, 0] S256x1024.size inb_S1024x1024_S256x1024_768_0, k0_pay8⟩,
      ⟨Rect.unit (s := S1024x1024) ![0, 0] S768x1024.size inb_S1024x1024_S768x1024_0_0, k0_pay7 (View.ld x0 (Rect.unit (s := S1024x2048) ![0, 0] S768x2048.size inb_S1024x2048_S768x2048_0_0)) (View.ld y0 colL) (View.ld y1 colL) (View.ld y0 colR) (View.ld y1 colR)⟩]
  | 7 => [⟨Rect.unit (s := S1024x1024) ![896, 0] S128x1024.size inb_S1024x1024_S128x1024_896_0, k0_pay10⟩,
      ⟨Rect.unit (s := S1024x1024) ![0, 0] S896x1024.size inb_S1024x1024_S896x1024_0_0, k0_pay9 (View.ld x0 (Rect.unit (s := S1024x2048) ![0, 0] S896x2048.size inb_S1024x2048_S896x2048_0_0)) (View.ld y0 colL) (View.ld y1 colL) (View.ld y0 colR) (View.ld y1 colR)⟩]
  | 8 => [⟨Rect.unit (s := S1024x1024) ![0, 0] S1024x1024.size inb_S1024x1024_S1024x1024_0_0, k0_pay11 (View.ld x0 (Rect.unit (s := S1024x2048) ![0, 0] S1024x2048.size inb_S1024x2048_S1024x2048_0_0)) (View.ld y0 colL) (View.ld y1 colL) (View.ld y0 colR) (View.ld y1 colR)⟩]

/-- The stores fill the block, whatever the number of steps. -/
theorem pieces_cover (k : Fin 9) (x0 : S1024x2048.Idx → Elt F .bf16) (y0 y1 : S2048x1024.Idx → Elt F .bf16) (y : S1024x1024.Idx) :
    ∃ p ∈ pieces k x0 y0 y1, y ∈ p.1.set := by
  revert y
  fin_cases k <;> exact View.cover_of_tiledBy _ ![128, 1024] (by sl_kernel_rfl)

/-- One output buffer, through which a block's contents are stated. -/
abbrev VO : View sig .tc .vmem S1024x1024 .bf16 := (Memref.whole cc0_stg3_0 : Memref sig .tc .vmem S1024x1024 .bf16).view

/-- The output block at `k` row steps. -/
def outv (k : Fin 9) (x0 : S1024x2048.Idx → Elt F .bf16) (y0 y1 : S2048x1024.Idx → Elt F .bf16) : S1024x1024.Idx → Elt F .bf16 :=
  VO.read (Elt F) (VO.writes (Elt F) VO.junk (pieces k x0 y0 y1))

/-- Of the nine conditions on the row count, the one for `k` steps holds and no other does. -/
def Steps (w : BitVec 32) (k : Fin 9) : Prop :=
  (k0_cond2 w = 1#1 ↔ k = 0) ∧ (k0_cond3 w = 1#1 ↔ k = 1) ∧ (k0_cond4 w = 1#1 ↔ k = 2) ∧ (k0_cond5 w = 1#1 ↔ k = 3)
  ∧ (k0_cond6 w = 1#1 ↔ k = 4) ∧ (k0_cond7 w = 1#1 ↔ k = 5) ∧ (k0_cond8 w = 1#1 ↔ k = 6) ∧ (k0_cond9 w = 1#1 ↔ k = 7)
  ∧ (k0_cond10 w = 1#1 ↔ k = 8)
instance (w : BitVec 32) (k : Fin 9) : Decidable (Steps w k) := by unfold Steps; infer_instance

/-- A load of a buffer stored whole, at a rectangle. -/
theorem readCov_whole {s : Shape} {e : EltTy} {sp : Space} (v : View sig .tc sp s e) {off : Fin s.rank → ℕ} (inb : ∀ a, off a + s.size a ≤ s.size a)
    (w : s.Idx → Elt F e) (r : Rect s) :
    v.readCov (Val := Elt F) [⟨Rect.unit off s.size inb, w⟩] r.toLoadRect = View.ld w r := by
  show View.ld (v.read (Elt F) (v.writes (Elt F) v.junk [⟨Rect.unit off s.size inb, w⟩])) r = _
  rw [View.read_writes_full]

set_option backward.proofsInPublic true in
set_option maxHeartbeats 16000000 in
/-- The body at a tile that is not marked: the two scratches stay, and the output block is `outv` of
    the row block and the scratches, whatever the number of row steps. -/
theorem run_unmarked (c : Dev nD) (i : grid0.Coords) (arg5 : Memref sig .tc .vmem S1024x2048 .bf16) (harg5 : arg5.IsWhole) (arg6 : Memref sig .tc .vmem S1x1x2048x1024 .f32) (harg6 : arg6.IsWhole) (arg7 : Memref sig .tc .vmem S1x1x2048x1024 .f32) (harg7 : arg7.IsWhole) (arg8 : Memref sig .tc .vmem S1024x1024 .bf16) (harg8 : arg8.IsWhole) (T0 T1 T2 : S24.Idx → Elt F .i32)
    (x0 : S1024x2048.Idx → Elt F .bf16) (x1 x2 : S1x1x2048x1024.Idx → Elt F .f32) (xa0 xa1 y0 y1 : S2048x1024.Idx → Elt F .bf16)
    (hf : ¬marked (wf i T1)) (hy0 : y0 = xa0) (hy1 : y1 = xa1) (k : Fin 9) (hk : Steps (wr i T2) k) (K : PUnit → sProp 𝕄) :
    iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (tb0.view.loc (c : Thread nD τ) ↦{fullShare.right} T0) ∗ (tb1.view.loc (c : Thread nD τ) ↦{fullShare.right} T1) ∗ (tb2.view.loc (c : Thread nD τ) ↦{fullShare.right} T2) ∗ (∃ d, owns (c : Thread nD τ) arg8 fullShare d) ∗ (sc0.view.loc (c : Thread nD τ) ↦{fullShare} xa0) ∗ (sc1.view.loc (c : Thread nD τ) ↦{fullShare} xa1) ∗ (iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (tb0.view.loc (c : Thread nD τ) ↦{fullShare.right} T0) ∗ (tb1.view.loc (c : Thread nD τ) ↦{fullShare.right} T1) ∗ (tb2.view.loc (c : Thread nD τ) ↦{fullShare.right} T2) ∗ owns (c : Thread nD τ) arg8 fullShare (outv k x0 y0 y1) ∗ (∃ a, ⌜sc0.view.read (Elt F) a = y0⌝ ∗ (sc0.view.loc (c : Thread nD τ) ↦{fullShare} a)) ∗ (∃ a, ⌜sc1.view.read (Elt F) a = y1⌝ ∗ (sc1.view.loc (c : Thread nD τ) ↦{fullShare} a))) -∗ K ⟨⟩))
      ⊢ wp frame (wpE (defs₀ (F := F)) Variants.none c none) Set.univ (cc0_moe_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  subst hy0; subst hy1
  have hcov := pieces_cover k x0 y0 y1
  obtain ⟨h2, h3, h4, h5, h6, h7, h8, h9, h10⟩ := hk
  have hk9 : k = 0 ∨ k = 1 ∨ k = 2 ∨ k = 3 ∨ k = 4 ∨ k = 5 ∨ k = 6 ∨ k = 7 ∨ k = 8 := by clear hcov h2 h3 h4 h5 h6 h7 h8 h9 h10; revert k; decide
  rcases hk9 with rfl | rfl | rfl | rfl | rfl | rfl | rfl | rfl | rfl <;>
  · simp only [Fin.isValue, Fin.reduceEq, iff_true, iff_false] at h2 h3 h4 h5 h6 h7 h8 h9 h10
    rw [cc0_moe_up_eq_skeleton]; unfold cc0_moe_up_skel
    unfold owns
    iintro ⟨H0, H1, H2, HT0, HT1, HT2, ⟨%d3, %f3, -, HO3⟩, HS0, HS1, Hk⟩
    sl_exec! (disch := first | (guard_target = ¬(Scalar.cmpi .ne _ _ = _); exact hf) | (guard_target = k0_cond2 _ = _; exact h2) | (guard_target = ¬(k0_cond2 _ = _); exact h2) | (guard_target = k0_cond3 _ = _; exact h3) | (guard_target = ¬(k0_cond3 _ = _); exact h3) | (guard_target = k0_cond4 _ = _; exact h4) | (guard_target = ¬(k0_cond4 _ = _); exact h4) | (guard_target = k0_cond5 _ = _; exact h5) | (guard_target = ¬(k0_cond5 _ = _); exact h5) | (guard_target = k0_cond6 _ = _; exact h6) | (guard_target = ¬(k0_cond6 _ = _); exact h6) | (guard_target = k0_cond7 _ = _; exact h7) | (guard_target = ¬(k0_cond7 _ = _); exact h7) | (guard_target = k0_cond8 _ = _; exact h8) | (guard_target = ¬(k0_cond8 _ = _); exact h8) | (guard_target = k0_cond9 _ = _; exact h9) | (guard_target = ¬(k0_cond9 _ = _); exact h9) | (guard_target = k0_cond10 _ = _; exact h10) | (guard_target = ¬(k0_cond10 _ = _); exact h10))
    sl_step
    have g0 : ∀ r : Rect S1024x2048, arg5.view.readAt (Elt F) r.toLoadRect (arg5.view.rep x0) = View.ld x0 r := fun r => by rw [View.readAt_eq_ld, View.read_rep]
    skip
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; swap
      · iexact HO3
      · ipureintro
        refine Eq.trans ?_ (View.read_writes_of_cover arg8.view arg8.view.junk VO VO.junk _ hcov)
        refine congrArg (fun L => arg8.view.read (Elt F) (arg8.view.writes (Elt F) arg8.view.junk L)) ?_
        simp only [pieces, ← g0]
        rfl
    isplitl [HS0]
    · iexists _; isplitr; swap
      · iexact HS0
      · ipureintro; rfl
    iexists _; isplitr; swap
    · iexact HS1
    · ipureintro; rfl

set_option backward.proofsInPublic true in
set_option maxHeartbeats 16000000 in
/-- The body at a tile that is marked: the two scratches take the cast weight blocks, and the output block is `outv` of
    the row block and the scratches, whatever the number of row steps. -/
theorem run_marked (c : Dev nD) (i : grid0.Coords) (arg5 : Memref sig .tc .vmem S1024x2048 .bf16) (harg5 : arg5.IsWhole) (arg6 : Memref sig .tc .vmem S1x1x2048x1024 .f32) (harg6 : arg6.IsWhole) (arg7 : Memref sig .tc .vmem S1x1x2048x1024 .f32) (harg7 : arg7.IsWhole) (arg8 : Memref sig .tc .vmem S1024x1024 .bf16) (harg8 : arg8.IsWhole) (T0 T1 T2 : S24.Idx → Elt F .i32)
    (x0 : S1024x2048.Idx → Elt F .bf16) (x1 x2 : S1x1x2048x1024.Idx → Elt F .f32) (xa0 xa1 y0 y1 : S2048x1024.Idx → Elt F .bf16)
    (hf : marked (wf i T1)) (hy0 : y0 = k0_pay12 x1) (hy1 : y1 = k0_pay13 x2) (k : Fin 9) (hk : Steps (wr i T2) k) (K : PUnit → sProp 𝕄) :
    iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (tb0.view.loc (c : Thread nD τ) ↦{fullShare.right} T0) ∗ (tb1.view.loc (c : Thread nD τ) ↦{fullShare.right} T1) ∗ (tb2.view.loc (c : Thread nD τ) ↦{fullShare.right} T2) ∗ (∃ d, owns (c : Thread nD τ) arg8 fullShare d) ∗ (sc0.view.loc (c : Thread nD τ) ↦{fullShare} xa0) ∗ (sc1.view.loc (c : Thread nD τ) ↦{fullShare} xa1) ∗ (iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (tb0.view.loc (c : Thread nD τ) ↦{fullShare.right} T0) ∗ (tb1.view.loc (c : Thread nD τ) ↦{fullShare.right} T1) ∗ (tb2.view.loc (c : Thread nD τ) ↦{fullShare.right} T2) ∗ owns (c : Thread nD τ) arg8 fullShare (outv k x0 y0 y1) ∗ (∃ a, ⌜sc0.view.read (Elt F) a = y0⌝ ∗ (sc0.view.loc (c : Thread nD τ) ↦{fullShare} a)) ∗ (∃ a, ⌜sc1.view.read (Elt F) a = y1⌝ ∗ (sc1.view.loc (c : Thread nD τ) ↦{fullShare} a))) -∗ K ⟨⟩))
      ⊢ wp frame (wpE (defs₀ (F := F)) Variants.none c none) Set.univ (cc0_moe_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  have hcov := pieces_cover k x0 y0 y1
  obtain ⟨h2, h3, h4, h5, h6, h7, h8, h9, h10⟩ := hk
  have hk9 : k = 0 ∨ k = 1 ∨ k = 2 ∨ k = 3 ∨ k = 4 ∨ k = 5 ∨ k = 6 ∨ k = 7 ∨ k = 8 := by clear hcov h2 h3 h4 h5 h6 h7 h8 h9 h10; revert k; decide
  rcases hk9 with rfl | rfl | rfl | rfl | rfl | rfl | rfl | rfl | rfl <;>
  · simp only [Fin.isValue, Fin.reduceEq, iff_true, iff_false] at h2 h3 h4 h5 h6 h7 h8 h9 h10
    rw [cc0_moe_up_eq_skeleton]; unfold cc0_moe_up_skel
    unfold owns
    iintro ⟨H0, H1, H2, HT0, HT1, HT2, ⟨%d3, %f3, -, HO3⟩, HS0, HS1, Hk⟩
    sl_exec! (disch := first | (guard_target = (Scalar.cmpi .ne _ _ = _); exact hf) | (guard_target = k0_cond2 _ = _; exact h2) | (guard_target = ¬(k0_cond2 _ = _); exact h2) | (guard_target = k0_cond3 _ = _; exact h3) | (guard_target = ¬(k0_cond3 _ = _); exact h3) | (guard_target = k0_cond4 _ = _; exact h4) | (guard_target = ¬(k0_cond4 _ = _); exact h4) | (guard_target = k0_cond5 _ = _; exact h5) | (guard_target = ¬(k0_cond5 _ = _); exact h5) | (guard_target = k0_cond6 _ = _; exact h6) | (guard_target = ¬(k0_cond6 _ = _); exact h6) | (guard_target = k0_cond7 _ = _; exact h7) | (guard_target = ¬(k0_cond7 _ = _); exact h7) | (guard_target = k0_cond8 _ = _; exact h8) | (guard_target = ¬(k0_cond8 _ = _); exact h8) | (guard_target = k0_cond9 _ = _; exact h9) | (guard_target = ¬(k0_cond9 _ = _); exact h9) | (guard_target = k0_cond10 _ = _; exact h10) | (guard_target = ¬(k0_cond10 _ = _); exact h10))
    sl_step
    have g0 : ∀ r : Rect S1024x2048, arg5.view.readAt (Elt F) r.toLoadRect (arg5.view.rep x0) = View.ld x0 r := fun r => by rw [View.readAt_eq_ld, View.read_rep]
    have hx1 : arg6.view.readAt (Elt F) (Rect.unit (s := S1x1x2048x1024) ![0, 0, 0, 0] S1x1x2048x1024.size inb_S1x1x2048x1024_S1x1x2048x1024_0_0_0_0).toLoadRect (arg6.view.rep x1) = x1 := View.readAt_rep_full _ _ _
    have hx2 : arg7.view.readAt (Elt F) (Rect.unit (s := S1x1x2048x1024) ![0, 0, 0, 0] S1x1x2048x1024.size inb_S1x1x2048x1024_S1x1x2048x1024_0_0_0_0).toLoadRect (arg7.view.rep x2) = x2 := View.readAt_rep_full _ _ _
    replace hy0 := hy0.trans (congrArg k0_pay12 hx1.symm)
    replace hy1 := hy1.trans (congrArg k0_pay13 hx2.symm)
    have gy0 : ∀ r : Rect S2048x1024, View.ld y0 r = _ := fun r => (congrArg (fun y => View.ld y r) hy0).trans (readCov_whole sc0.view inb_S2048x1024_S2048x1024_0_0 _ r).symm
    have gy1 : ∀ r : Rect S2048x1024, View.ld y1 r = _ := fun r => (congrArg (fun y => View.ld y r) hy1).trans (readCov_whole sc1.view inb_S2048x1024_S2048x1024_0_0 _ r).symm
    have e0 : sc0.view.read (Elt F) (sc0.view.writes (Elt F) sc0.view.junk [⟨Rect.unit (s := S2048x1024) ![0, 0] S2048x1024.size inb_S2048x1024_S2048x1024_0_0, _⟩]) = y0 := (View.read_writes_full sc0.view _ inb_S2048x1024_S2048x1024_0_0 _ []).trans hy0.symm
    have e1 : sc1.view.read (Elt F) (sc1.view.writes (Elt F) sc1.view.junk [⟨Rect.unit (s := S2048x1024) ![0, 0] S2048x1024.size inb_S2048x1024_S2048x1024_0_0, _⟩]) = y1 := (View.read_writes_full sc1.view _ inb_S2048x1024_S2048x1024_0_0 _ []).trans hy1.symm
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; swap
      · iexact HO3
      · ipureintro
        refine Eq.trans ?_ (View.read_writes_of_cover arg8.view arg8.view.junk VO VO.junk _ hcov)
        refine congrArg (fun L => arg8.view.read (Elt F) (arg8.view.writes (Elt F) arg8.view.junk L)) ?_
        simp only [pieces, ← g0, gy0, gy1]
        rfl
    isplitl [HS0]
    · iexists _; isplitr; swap
      · iexact HS0
      · ipureintro; exact e0
    iexists _; isplitr; swap
    · iexact HS1
    · ipureintro; exact e1

end Cert.Kernel2Ideal.Moe

end
-- ==== Proof.MTab.lean ====
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.MRun
public import Idealize.ShloMosaic.Lib.Pipeline.ValueKit
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the tables hold: every tile's expert is one of the eight, a tile that is not marked keeps the expert of
    the tile before it, and no tile uses more rows than it has. -/
structure Good (T0 T1 T2 : S24.Idx → BitVec 32) : Prop where
  te : ∀ j : Fin 24, (T0 (ix1 j)).toNat < 8
  tf : ∀ j : Fin 24, ¬marked (T1 (ix1 j)) → ∃ h : 0 < j.val, T0 (ix1 j) = T0 (ix1 ⟨j.val - 1, by omega⟩)
  tr : ∀ j : Fin 24, (T2 (ix1 j)).toNat ≤ 1024

/-- The offset at which a point reads its mark: its tile. -/
theorem off1 : ∀ i : grid0.Coords, k0_off1 i 0 = (i 1).val := by decide +kernel
/-- The offset at which a point reads its row count: its tile. -/
theorem off2 : ∀ i : grid0.Coords, k0_off2 i 0 = (i 1).val := by decide +kernel

/-- The word of the marks, and of the row counts, that a point reads. -/
theorem wf_eq (i : grid0.Coords) (T1 : S24.Idx → Elt F .i32) : wf i T1 = T1 (ix1 (i 1)) :=
  congrArg T1 (funext fun a => Fin.ext (by
    obtain rfl : a = (0 : Fin 1) := Subsingleton.elim (α := Fin 1) _ _
    show k0_off1 i 0 + 1 * 0 = (i 1).val
    rw [off1]; omega))
/-- The word of the row count that a point reads. -/
theorem wr_eq (i : grid0.Coords) (T2 : S24.Idx → Elt F .i32) : wr i T2 = T2 (ix1 (i 1)) :=
  congrArg T2 (funext fun a => Fin.ext (by
    obtain rfl : a = (0 : Fin 1) := Subsingleton.elim (α := Fin 1) _ _
    show k0_off2 i 0 + 1 * 0 = (i 1).val
    rw [off2]; omega))

/-- The number of row steps at a row count. -/
def kof (w : BitVec 32) : Fin 9 := Fin.ofNat 9 ((w.toNat + 127) / 128)

/-- Every count up to a whole tile has its step. -/
theorem steps_ofNat : ∀ n : Fin 1025, Steps (BitVec.ofNat 32 n.val) (kof (BitVec.ofNat 32 n.val)) := by decide +kernel

/-- At a row count of at most 1024 the body takes `kof` steps. -/
theorem steps_of_le (w : BitVec 32) (h : w.toNat ≤ 1024) : Steps w (kof w) := by
  have := steps_ofNat ⟨w.toNat, by omega⟩
  rwa [BitVec.ofNat_toNat, BitVec.setWidth_eq] at this

/-- The tables' contents. -/
def pfN (T0 T1 T2 : S24.Idx → Elt F .i32) : pre0.Contents (Elt F) := fun | ⟨0, _⟩ => T0 | ⟨1, _⟩ => T1 | ⟨2, _⟩ => T2 | ⟨_ + 3, h⟩ => absurd h (by simp)

/-- The weight windows' block at a point: the tile's expert, the point's column block. -/
theorem ix_1 (T0 T1 T2 : S24.Idx → Elt F .i32) (i : grid0.Coords) :
    cc0_transform_1 k0_off1_inb numel1_S1 (pfN T0 T1 T2) i = ![0, BitVec.toNat (w := 32) (T0 (ix1 (i 1))), 0, (i 0).val] := by
  have h := wf_eq i T0
  have h0 : ∀ i : grid0.Coords, (BitVec.ofNat 32 (i 0).val).toNat = (i 0).val := by decide +kernel
  show ![0, BitVec.toNat (w := 32) (wf i T0), 0, (BitVec.ofNat 32 (i 0).val).toNat] = _
  rw [h, h0]
/-- The same of the second weight window. -/
theorem ix_2 (T0 T1 T2 : S24.Idx → Elt F .i32) (i : grid0.Coords) :
    cc0_transform_2 k0_off1_inb numel1_S1 (pfN T0 T1 T2) i = ![0, BitVec.toNat (w := 32) (T0 (ix1 (i 1))), 0, (i 0).val] := ix_1 T0 T1 T2 i

/-- The weight windows' blocks are inside their arrays. -/
theorem ok_good (T0 T1 T2 : S24.Idx → Elt F .i32) (hg : Good T0 T1 T2) : ok0 (F := F) (pfN T0 T1 T2) := by
  have key : ∀ i : grid0.Coords, ∀ a, ((![0, BitVec.toNat (w := 32) (T0 (ix1 (i 1))), 0, (i 0).val] : Fin 4 → ℕ) a + 1) * S1x1x2048x1024.size a ≤ S1x8x2048x7168.size a := by
    intro i a
    have h1 := hg.te (i 1)
    have h0 : (i 0).val < 7 := (i 0).isLt
    fin_cases a
    · show (0 + 1) * 1 ≤ 1; omega
    · show (BitVec.toNat (w := 32) (T0 (ix1 (i 1))) + 1) * 1 ≤ 8; omega
    · show (0 + 1) * 2048 ≤ 2048; omega
    · show ((i 0).val + 1) * 1024 ≤ 7168; omega
  exact ⟨fun i => ⟨fun a => by rw [ix_1]; exact key i a, .inl rfl⟩, fun i => ⟨fun a => by rw [ix_2]; exact key i a, .inl rfl⟩⟩

end Cert.Kernel2Ideal.Moe

end
-- ==== Proof.MFrame.lean ====
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.MTab
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

variable (T0 T1 T2 : S24.Idx → Elt F .i32) (hg : Good T0 T1 T2)

/-- The admissible contents, the pipeline at them, as @main's one. -/
def adm : (pcfg0 (F := F)).Adm := ⟨pfN T0 T1 T2, ok_good T0 T1 T2 hg⟩
abbrev cfgA : Pipeline.Cfg sig Λ₀ := cfg0 (F := F) (adm T0 T1 T2 hg)
abbrev pcs : Fin 1 → Pipeline.Cfg sig Λ₀ := Pipeline.pin (pcfgs (F := F)) fun _ => adm T0 T1 T2 hg

variable (m : (ℓ : Loc nD τ sig) → Buf (Elt F) ℓ) (ρ : Dev nD → PrngReg)

/-- Point `t`'s coordinates. -/
abbrev crd (t : Fin (cfgA T0 T1 T2 hg).N) : grid0.Coords := (cfgA T0 T1 T2 hg).grid.coords t
/-- Point `t`'s tile. -/
abbrev tile (t : Fin (cfgA T0 T1 T2 hg).N) : Fin 24 := crd T0 T1 T2 hg t 1

/-- A point's two coordinates, from its position. -/
theorem crd_val : ∀ t : Fin grid0.N, (grid0.coords t 0).val = t.val / 24 ∧ (grid0.coords t 1).val = t.val % 24 := by decide +kernel

/-- Each window's current staging memref at point `t`, and its wholeness. -/
abbrev ms0 (t : Fin (cfgA T0 T1 T2 hg).N) : Memref sig .tc .vmem S1024x2048 .bf16 := spec0_0.stage ((cfgA T0 T1 T2 hg).slots t (0 : Fin 4))
abbrev hs0 (t : Fin (cfgA T0 T1 T2 hg).N) : (ms0 T0 T1 T2 hg t).IsWhole := hstage0_0 (((cfgA T0 T1 T2 hg).slots t (0 : Fin 4)).cast nbuf0_0)
abbrev ms1 (t : Fin (cfgA T0 T1 T2 hg).N) : Memref sig .tc .vmem S1x1x2048x1024 .f32 := spec0_1.stage ((cfgA T0 T1 T2 hg).slots t (1 : Fin 4))
abbrev hs1 (t : Fin (cfgA T0 T1 T2 hg).N) : (ms1 T0 T1 T2 hg t).IsWhole := hstage0_1 (((cfgA T0 T1 T2 hg).slots t (1 : Fin 4)).cast nbuf0_1)
abbrev ms2 (t : Fin (cfgA T0 T1 T2 hg).N) : Memref sig .tc .vmem S1x1x2048x1024 .f32 := spec0_2.stage ((cfgA T0 T1 T2 hg).slots t (2 : Fin 4))
abbrev hs2 (t : Fin (cfgA T0 T1 T2 hg).N) : (ms2 T0 T1 T2 hg t).IsWhole := hstage0_2 (((cfgA T0 T1 T2 hg).slots t (2 : Fin 4)).cast nbuf0_2)
abbrev ms3 (t : Fin (cfgA T0 T1 T2 hg).N) : Memref sig .tc .vmem S1024x1024 .bf16 := spec0_3.stage ((cfgA T0 T1 T2 hg).slots t (3 : Fin 4))
abbrev hs3 (t : Fin (cfgA T0 T1 T2 hg).N) : (ms3 T0 T1 T2 hg t).IsWhole := hstage0_3 (((cfgA T0 T1 T2 hg).slots t (3 : Fin 4)).cast nbuf0_3)

/-- Window `w`'s block at point `t`, read off its array at launch. -/
def iblk (c : Dev nD) (w : Fin (cfgA T0 T1 T2 hg).W) (t : Fin (cfgA T0 T1 T2 hg).N) : (((cfgA T0 T1 T2 hg).win w).xblock (crd T0 T1 T2 hg t)).Idx → Elt F ((cfgA T0 T1 T2 hg).win w).elt :=
  (((cfgA T0 T1 T2 hg).win w).blk t).view.read (Elt F) ((s₀ m ρ).mem (((cfgA T0 T1 T2 hg).win w).arr.view.loc (c : Thread nD τ)))

/-- A weight window's block depends on the point by its expert and its column block alone. -/
theorem iblk_congr1 (c : Dev nD) (t t' : Fin (cfgA T0 T1 T2 hg).N) (h : ((cfgA T0 T1 T2 hg).win (1 : Fin 4)).index t = ((cfgA T0 T1 T2 hg).win (1 : Fin 4)).index t') :
    (iblk T0 T1 T2 hg m ρ c (1 : Fin 4) t : S1x1x2048x1024.Idx → Elt F .f32) = iblk T0 T1 T2 hg m ρ c (1 : Fin 4) t' := by
  funext y
  show m ((c : Thread nD τ).loc main_arg1) _ = m ((c : Thread nD τ).loc main_arg1) _
  refine congrArg _ (funext fun a => Fin.ext ?_)
  show ((cfgA T0 T1 T2 hg).win (1 : Fin 4)).index t a * _ + 1 * (y a).val = ((cfgA T0 T1 T2 hg).win (1 : Fin 4)).index t' a * _ + 1 * (y a).val
  rw [h]
/-- The same of the second weight window. -/
theorem iblk_congr2 (c : Dev nD) (t t' : Fin (cfgA T0 T1 T2 hg).N) (h : ((cfgA T0 T1 T2 hg).win (2 : Fin 4)).index t = ((cfgA T0 T1 T2 hg).win (2 : Fin 4)).index t') :
    (iblk T0 T1 T2 hg m ρ c (2 : Fin 4) t : S1x1x2048x1024.Idx → Elt F .f32) = iblk T0 T1 T2 hg m ρ c (2 : Fin 4) t' := by
  funext y
  show m ((c : Thread nD τ).loc main_arg2) _ = m ((c : Thread nD τ).loc main_arg2) _
  refine congrArg _ (funext fun a => Fin.ext ?_)
  show ((cfgA T0 T1 T2 hg).win (2 : Fin 4)).index t a * _ + 1 * (y a).val = ((cfgA T0 T1 T2 hg).win (2 : Fin 4)).index t' a * _ + 1 * (y a).val
  rw [h]

/-- The two scratches after point `t`: its cast weight blocks. -/
def y0v (c : Dev nD) (t : Fin (cfgA T0 T1 T2 hg).N) : S2048x1024.Idx → Elt F .bf16 := k0_pay12 (iblk T0 T1 T2 hg m ρ c (1 : Fin 4) t)
/-- The second kept weight at a point. -/
def y1v (c : Dev nD) (t : Fin (cfgA T0 T1 T2 hg).N) : S2048x1024.Idx → Elt F .bf16 := k0_pay13 (iblk T0 T1 T2 hg m ρ c (2 : Fin 4) t)

/-- The output block after point `t`. -/
def after3 (c : Dev nD) (t : Fin (cfgA T0 T1 T2 hg).N) : S1024x1024.Idx → Elt F .bf16 :=
  outv (kof (T2 (ix1 (tile T0 T1 T2 hg t)))) (iblk T0 T1 T2 hg m ρ c (0 : Fin 4) t) (y0v T0 T1 T2 hg m ρ c t) (y1v T0 T1 T2 hg m ρ c t)

/-- At a point whose tile is not marked the weight blocks are those of the point before. -/
theorem same_index (t : Fin (cfgA T0 T1 T2 hg).N) (hu : ¬marked (T1 (ix1 (tile T0 T1 T2 hg t)))) :
    ∃ h : t.val ≠ 0, ((cfgA T0 T1 T2 hg).win (1 : Fin 4)).index t = ((cfgA T0 T1 T2 hg).win (1 : Fin 4)).index ⟨t.val - 1, Nat.lt_of_le_of_lt (Nat.sub_le _ _) t.isLt⟩
      ∧ ((cfgA T0 T1 T2 hg).win (2 : Fin 4)).index t = ((cfgA T0 T1 T2 hg).win (2 : Fin 4)).index ⟨t.val - 1, Nat.lt_of_le_of_lt (Nat.sub_le _ _) t.isLt⟩ := by
  obtain ⟨h0, hT⟩ := hg.tf _ hu
  obtain ⟨ca, cb⟩ := crd_val t
  have hne : t.val ≠ 0 := fun h => by
    have h0' : 0 < (grid0.coords t 1).val := h0
    rw [cb, h] at h0'; omega
  have hlt : t.val - 1 < grid0.N := by have : t.val < grid0.N := t.isLt; omega
  obtain ⟨ca', cb'⟩ := crd_val ⟨t.val - 1, hlt⟩
  have h0' : 0 < (grid0.coords t 1).val := h0
  have e0 : grid0.coords t 0 = grid0.coords ⟨t.val - 1, hlt⟩ 0 := Fin.ext (by rw [ca, ca']; show t.val / 24 = (t.val - 1) / 24; omega)
  have e1 : (⟨(grid0.coords t 1).val - 1, by have : (grid0.coords t 1).val < 24 := (grid0.coords t 1).isLt; omega⟩ : Fin 24) = grid0.coords ⟨t.val - 1, hlt⟩ 1 :=
    Fin.ext (by show (grid0.coords t 1).val - 1 = _; rw [cb, cb']; show t.val % 24 - 1 = (t.val - 1) % 24; omega)
  have key : (![0, BitVec.toNat (w := 32) (T0 (ix1 (grid0.coords t 1))), 0, (grid0.coords t 0).val] : Fin 4 → ℕ)
      = ![0, BitVec.toNat (w := 32) (T0 (ix1 (grid0.coords ⟨t.val - 1, hlt⟩ 1))), 0, (grid0.coords ⟨t.val - 1, hlt⟩ 0).val] := by
    rw [← e0, ← e1]; exact congrArg (fun v : BitVec 32 => (![0, v.toNat, 0, (grid0.coords t 0).val] : Fin 4 → ℕ)) hT
  refine ⟨hne, ?_, ?_⟩
  · exact ((ix_1 T0 T1 T2 _).trans key).trans (ix_1 T0 T1 T2 _).symm
  · exact ((ix_2 T0 T1 T2 _).trans key).trans (ix_2 T0 T1 T2 _).symm

/-- The output window is written back at every point, -/
theorem flush3 (t : Fin (cfgA T0 T1 T2 hg).N) : ((cfgA T0 T1 T2 hg).win (3 : Fin 4)).flush t = true := by
  have h : ∀ t : Fin grid0.N, (t.val + 1 = grid0.N || decide (∃ h : t.val + 1 < grid0.N, cc0_transform_3 (grid0.coords ⟨t.val + 1, h⟩) ≠ cc0_transform_3 (grid0.coords t))) = true := by decide +kernel
  exact h t

/-- is never left idle, -/
theorem idle3 (t : Fin (cfgA T0 T1 T2 hg).N) : (cfgA T0 T1 T2 hg).idle (3 : Fin 4) ((cfgA T0 T1 T2 hg).grid.coords t) = false := by
  have hs := steps_of_le _ (hg.tr (tile T0 T1 T2 hg t))
  have hw : (pfN T0 T1 T2).atD 2 (k0_off2 (crd T0 T1 T2 hg t)) = T2 (ix1 (tile T0 T1 T2 hg t)) := by
    have hb : ∀ a, k0_off2 (crd T0 T1 T2 hg t) a + 1 ≤ S24.size a := fun a => by
      obtain rfl : a = (0 : Fin 1) := Subsingleton.elim (α := Fin 1) _ _
      rw [off2]; exact (tile T0 T1 T2 hg t).isLt
    refine (dif_pos hb).trans (congrArg T2 (funext fun a => Fin.ext ?_))
    obtain rfl : a = (0 : Fin 1) := Subsingleton.elim (α := Fin 1) _ _
    exact off2 _
  show idle0 (pfN T0 T1 T2) 3 (crd T0 T1 T2 hg t) = false
  show (!(k0_cond2 ((pfN T0 T1 T2).atD 2 (k0_off2 (crd T0 T1 T2 hg t))) == 1#1) && !(k0_cond3 _ == 1#1) && !(k0_cond4 _ == 1#1) && !(k0_cond5 _ == 1#1) && !(k0_cond6 _ == 1#1) && !(k0_cond7 _ == 1#1) && !(k0_cond8 _ == 1#1) && !(k0_cond9 _ == 1#1) && !(k0_cond10 _ == 1#1)) = false
  rw [hw]
  generalize T2 (ix1 (tile T0 T1 T2 hg t)) = w at hs ⊢
  obtain ⟨h2, h3, h4, h5, h6, h7, h8, h9, h10⟩ := hs
  generalize kof w = k at h2 h3 h4 h5 h6 h7 h8 h9 h10
  have hk9 : k = 0 ∨ k = 1 ∨ k = 2 ∨ k = 3 ∨ k = 4 ∨ k = 5 ∨ k = 6 ∨ k = 7 ∨ k = 8 := by clear h2 h3 h4 h5 h6 h7 h8 h9 h10; revert k; decide
  rcases hk9 with h | h | h | h | h | h | h | h | h
  · rw [h2.2 h]; rfl
  · rw [h3.2 h]; simp
  · rw [h4.2 h]; simp
  · rw [h5.2 h]; simp
  · rw [h6.2 h]; simp
  · rw [h7.2 h]; simp
  · rw [h8.2 h]; simp
  · rw [h9.2 h]; simp
  · rw [h10.2 h]; simp

/-- and holds nothing carried before any point. -/
theorem fresh3 (t : Fin (cfgA T0 T1 T2 hg).N) : (cfgA T0 T1 T2 hg).fresh (3 : Fin 4) t.val = true :=
  Pipeline.Cfg.fresh_tab (cfgA T0 T1 T2 hg) (3 : Fin 4) (fun _ => true) rfl (fun t => by rw [flush3]; rfl) t.val (Nat.le_of_lt t.isLt)

/-- The invariant before point `t`: after the first point each scratch holds the point before's cast weight block; the
    body's halves of the tables. -/
def Phi (c : Dev nD) (t : Fin ((cfgA T0 T1 T2 hg).N + 1)) : sProp 𝕄 :=
  iprop((∃ a, ⌜∀ h : t.val ≠ 0, sc0.view.read (Elt F) a = y0v T0 T1 T2 hg m ρ c ⟨t.val - 1, by omega⟩⌝ ∗ (sc0.view.loc (c : Thread nD τ) ↦{fullShare} a))
    ∗ (∃ a, ⌜∀ h : t.val ≠ 0, sc1.view.read (Elt F) a = y1v T0 T1 T2 hg m ρ c ⟨t.val - 1, by omega⟩⌝ ∗ (sc1.view.loc (c : Thread nD τ) ↦{fullShare} a))
    ∗ (tb0.view.loc (c : Thread nD τ) ↦{fullShare.right} T0) ∗ (tb1.view.loc (c : Thread nD τ) ↦{fullShare.right} T1) ∗ (tb2.view.loc (c : Thread nD τ) ↦{fullShare.right} T2))

/-- The proof data of the one pipeline on core `c`. -/
def dats (_ : Fin 1) (c : Dev nD) : Dat τ (Elt F) Unit ℕ (UR sig nD τ) ℕ (cfgA T0 T1 T2 hg) c where
  A w := (s₀ m ρ).mem (((cfgA T0 T1 T2 hg).win w).arr.view.loc (c : Thread nD τ))
  after w t := match w with
    | ⟨0, _⟩ => iblk T0 T1 T2 hg m ρ c (0 : Fin 4) t
    | ⟨1, _⟩ => iblk T0 T1 T2 hg m ρ c (1 : Fin 4) t
    | ⟨2, _⟩ => iblk T0 T1 T2 hg m ρ c (2 : Fin 4) t
    | ⟨3, _⟩ => after3 T0 T1 T2 hg m ρ c t
  Φ t := Phi T0 T1 T2 hg m ρ c t
  q _ := fullShare
  owed _ := 0

/-- What an input window's block is after a point: what it was read as. -/
theorem after0_0 (c : Dev nD) (t : Fin (cfgA T0 T1 T2 hg).N) : (dats T0 T1 T2 hg m ρ 0 c).after (0 : Fin 4) t = iblk T0 T1 T2 hg m ρ c (0 : Fin 4) t := rfl
/-- The same of the first weight window. -/
theorem after0_1 (c : Dev nD) (t : Fin (cfgA T0 T1 T2 hg).N) : (dats T0 T1 T2 hg m ρ 0 c).after (1 : Fin 4) t = iblk T0 T1 T2 hg m ρ c (1 : Fin 4) t := rfl
/-- The same of the second weight window. -/
theorem after0_2 (c : Dev nD) (t : Fin (cfgA T0 T1 T2 hg).N) : (dats T0 T1 T2 hg m ρ 0 c).after (2 : Fin 4) t = iblk T0 T1 T2 hg m ρ c (2 : Fin 4) t := rfl
/-- The output window's block after a point. -/
theorem after0_3 (c : Dev nD) (t : Fin (cfgA T0 T1 T2 hg).N) : (dats T0 T1 T2 hg m ρ 0 c).after (3 : Fin 4) t = after3 T0 T1 T2 hg m ρ c t := rfl

/-- Each input window holds its block, fetched there or not. -/
theorem before0_0 (c : Dev nD) (t : Fin (cfgA T0 T1 T2 hg).N) (d) : (dats T0 T1 T2 hg m ρ 0 c).before (0 : Fin 4) t d = iblk T0 T1 T2 hg m ρ c (0 : Fin 4) t :=
  ((dats T0 T1 T2 hg m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)
/-- The first weight window's block before a point. -/
theorem before0_1 (c : Dev nD) (t : Fin (cfgA T0 T1 T2 hg).N) (d) : (dats T0 T1 T2 hg m ρ 0 c).before (1 : Fin 4) t d = iblk T0 T1 T2 hg m ρ c (1 : Fin 4) t :=
  ((dats T0 T1 T2 hg m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)
/-- The second weight window's block before a point. -/
theorem before0_2 (c : Dev nD) (t : Fin (cfgA T0 T1 T2 hg).N) (d) : (dats T0 T1 T2 hg m ρ 0 c).before (2 : Fin 4) t d = iblk T0 T1 T2 hg m ρ c (2 : Fin 4) t :=
  ((dats T0 T1 T2 hg m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The body at point `t` on its staging memrefs, as the pipeline calls it. -/
abbrev bodyAt0 (t : Fin (cfgA T0 T1 T2 hg).N) : Prog (TpuEff nD τ sig (Elt F) Λ₀ .tc) PUnit :=
  cc0_moe_up (crd T0 T1 T2 hg t) tb0 (Memref.isWhole_whole _) tb1 (Memref.isWhole_whole _) tb2 (Memref.isWhole_whole _) (ms0 T0 T1 T2 hg t) (hs0 T0 T1 T2 hg t) (ms1 T0 T1 T2 hg t) (hs1 T0 T1 T2 hg t) (ms2 T0 T1 T2 hg t) (hs2 T0 T1 T2 hg t) (ms3 T0 T1 T2 hg t) (hs3 T0 T1 T2 hg t) sc0 (Memref.isWhole_whole _) sc1 (Memref.isWhole_whole _)

set_option maxHeartbeats 4000000 in
/-- The body obligation at point `t`: the inputs hold their blocks, the scratches the cast weight blocks of the point
    before; at a marked tile the scratches are stored, at another they stay, and the weight blocks with them. -/
theorem sound_body (c : Dev nD) (t : Fin (cfgA T0 T1 T2 hg).N) :
    iprop((dats T0 T1 T2 hg m ρ 0 c).Φ t.castSucc ∗ (dats T0 T1 T2 hg m ρ 0 c).owesAt () t.castSucc
        ∗ (∃ d, owns (c : Thread nD τ) (ms0 T0 T1 T2 hg t) fullShare ((dats T0 T1 T2 hg m ρ 0 c).before (0 : Fin 4) t d))
        ∗ (∃ d, owns (c : Thread nD τ) (ms1 T0 T1 T2 hg t) fullShare ((dats T0 T1 T2 hg m ρ 0 c).before (1 : Fin 4) t d))
        ∗ (∃ d, owns (c : Thread nD τ) (ms2 T0 T1 T2 hg t) fullShare ((dats T0 T1 T2 hg m ρ 0 c).before (2 : Fin 4) t d))
        ∗ (∃ d, owns (c : Thread nD τ) (ms3 T0 T1 T2 hg t) fullShare ((dats T0 T1 T2 hg m ρ 0 c).before (3 : Fin 4) t d)))
      ⊢ wp frame (wpE (defs₀ (F := F)) Variants.none c none) Set.univ (bodyAt0 T0 T1 T2 hg t) fun _ =>
          iprop((dats T0 T1 T2 hg m ρ 0 c).Φ t.succ ∗ (dats T0 T1 T2 hg m ρ 0 c).owesAt () t.succ
            ∗ bigSep Finset.univ fun w : Fin (cfgA T0 T1 T2 hg).W =>
                match (cfgA T0 T1 T2 hg).idle w ((cfgA T0 T1 T2 hg).grid.coords t) with
                | true =>
                  match ((cfgA T0 T1 T2 hg).win w).flush t with
                  | false => iprop(∃ d, owns (c : Thread nD τ) (((cfgA T0 T1 T2 hg).win w).stage ((cfgA T0 T1 T2 hg).slots t w)) fullShare ((dats T0 T1 T2 hg m ρ 0 c).before w t d))
                  | true => owns (c : Thread nD τ) (((cfgA T0 T1 T2 hg).win w).stage ((cfgA T0 T1 T2 hg).slots t w)) fullShare ((dats T0 T1 T2 hg m ρ 0 c).after w t)
                | false => owns (c : Thread nD τ) (((cfgA T0 T1 T2 hg).win w).stage ((cfgA T0 T1 T2 hg).slots t w)) fullShare ((dats T0 T1 T2 hg m ρ 0 c).after w t)) := by
  rw [bigSep_W0]
  rewrite [idle3 T0 T1 T2 hg t]
  simp only [before0_0, before0_1, before0_2, after0_0, after0_1, after0_2, after0_3]
  rewrite [show (dats T0 T1 T2 hg m ρ 0 c).Φ t.succ = Phi T0 T1 T2 hg m ρ c t.succ from rfl, show (dats T0 T1 T2 hg m ρ 0 c).Φ t.castSucc = Phi T0 T1 T2 hg m ρ c t.castSucc from rfl,
    show (dats T0 T1 T2 hg m ρ 0 c).owesAt () t.succ = (dats T0 T1 T2 hg m ρ 0 c).owesAt () t.castSucc from rfl]
  unfold Phi; simp only [Fin.val_castSucc, Fin.val_succ]
  have hsteps : Steps (wr (crd T0 T1 T2 hg t) T2) (kof (T2 (ix1 (tile T0 T1 T2 hg t)))) := by
    rw [wr_eq]; exact steps_of_le _ (hg.tr _)
  iintro ⟨⟨⟨%a0, %ha0, HS0⟩, ⟨%a1, %ha1, HS1⟩, HT0, HT1, HT2⟩, Ho, ⟨%d0, H0⟩, ⟨%d1, H1⟩, ⟨%d2, H2⟩, ⟨%d3, H3⟩⟩
  by_cases hm : marked (wf (crd T0 T1 T2 hg t) T1)
  · iapply (run_marked c (crd T0 T1 T2 hg t) (ms0 T0 T1 T2 hg t) (hs0 T0 T1 T2 hg t) (ms1 T0 T1 T2 hg t) (hs1 T0 T1 T2 hg t) (ms2 T0 T1 T2 hg t) (hs2 T0 T1 T2 hg t) (ms3 T0 T1 T2 hg t) (hs3 T0 T1 T2 hg t) T0 T1 T2 (iblk T0 T1 T2 hg m ρ c (0 : Fin 4) t) (iblk T0 T1 T2 hg m ρ c (1 : Fin 4) t) (iblk T0 T1 T2 hg m ρ c (2 : Fin 4) t) a0 a1 (y0v T0 T1 T2 hg m ρ c t) (y1v T0 T1 T2 hg m ρ c t) hm rfl rfl _ hsteps _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexists _; iexact H3
    isplitl [HS0]; · iexact HS0
    isplitl [HS1]; · iexact HS1
    iintro ⟨H0, H1, H2, HT0, HT1, HT2, H3, ⟨%b0, %hb0, HS0⟩, ⟨%b1, %hb1, HS1⟩⟩
    isplitl [HS0 HS1 HT0 HT1 HT2]
    · isplitl [HS0]
      · iexists b0; isplitr; swap
        · iexact HS0
        · ipureintro; intro _; exact hb0
      isplitl [HS1]
      · iexists b1; isplitr; swap
        · iexact HS1
        · ipureintro; intro _; exact hb1
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    iexact H3
  · obtain ⟨hne, e1, e2⟩ := same_index T0 T1 T2 hg t (fun h => hm (by rw [wf_eq]; exact h))
    have q0 : y0v T0 T1 T2 hg m ρ c t = a0 := (congrArg k0_pay12 (iblk_congr1 T0 T1 T2 hg m ρ c t _ e1)).trans (ha0 hne).symm
    have q1 : y1v T0 T1 T2 hg m ρ c t = a1 := (congrArg k0_pay13 (iblk_congr2 T0 T1 T2 hg m ρ c t _ e2)).trans (ha1 hne).symm
    iapply (run_unmarked c (crd T0 T1 T2 hg t) (ms0 T0 T1 T2 hg t) (hs0 T0 T1 T2 hg t) (ms1 T0 T1 T2 hg t) (hs1 T0 T1 T2 hg t) (ms2 T0 T1 T2 hg t) (hs2 T0 T1 T2 hg t) (ms3 T0 T1 T2 hg t) (hs3 T0 T1 T2 hg t) T0 T1 T2 (iblk T0 T1 T2 hg m ρ c (0 : Fin 4) t) (iblk T0 T1 T2 hg m ρ c (1 : Fin 4) t) (iblk T0 T1 T2 hg m ρ c (2 : Fin 4) t) a0 a1 (y0v T0 T1 T2 hg m ρ c t) (y1v T0 T1 T2 hg m ρ c t) hm q0 q1 _ hsteps _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexists _; iexact H3
    isplitl [HS0]; · iexact HS0
    isplitl [HS1]; · iexact HS1
    iintro ⟨H0, H1, H2, HT0, HT1, HT2, H3, ⟨%b0, %hb0, HS0⟩, ⟨%b1, %hb1, HS1⟩⟩
    isplitl [HS0 HS1 HT0 HT1 HT2]
    · isplitl [HS0]
      · iexists b0; isplitr; swap
        · iexact HS0
        · ipureintro; intro _; exact hb0
      isplitl [HS1]
      · iexists b1; isplitr; swap
        · iexact HS1
        · ipureintro; intro _; exact hb1
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    iexact H3

/-- The library's body obligation, at every point. -/
theorem body_obligation (c : Dev nD) : BodyObligation (dats T0 T1 T2 hg m ρ 0 c) (defs₀ (F := F)) Variants.none () Set.univ := fun t => by
  rw [bigSep_W0]
  exact sound_body T0 T1 T2 hg m ρ c t

/-- The rounds library's launch element. -/
def u₀ : UR sig nD τ :=
  initOf (Pipeline.cells (pcs T0 T1 T2 hg) ((launch0 (F := F)).cellOf_inj fun _ => adm T0 T1 T2 hg))
    (Pipeline.launchToks (pcs T0 T1 T2 hg) ((launch0 (F := F)).cellOf_inj fun _ => adm T0 T1 T2 hg))

/-- The arrays' shares are whole. -/
theorem share_eq (c : Dev nD) (w : Fin (cfgA T0 T1 T2 hg).W) : (dats T0 T1 T2 hg m ρ 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1) ∗ (((c : Thread nD τ).loc main_arg5) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers; -/
theorem phi0_intro (c : Dev nD) :
    iprop(BI.emp ∗ Pipeline.prefHeld pre0 c (fun _ => fullShare.right) (adm T0 T1 T2 hg).1 ∗ Pipeline.scopedRest spec0 c) ⊢ (dats T0 T1 T2 hg m ρ 0 c).Φ 0 := by
  rw [prefHeld_eq, scopedRest0_eq, show (dats T0 T1 T2 hg m ρ 0 c).Φ 0 = Phi T0 T1 T2 hg m ρ c 0 from rfl]
  unfold Phi
  iintro ⟨-, ⟨HT0, HT1, HT2⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  isplitl [HT1]
  · iexact HT1
  iexact HT2

/-- at the last point it gives the scratch buffers back, the tables let go. -/
theorem phiN_exit (c : Dev nD) : (dats T0 T1 T2 hg m ρ 0 c).Φ (Fin.last (cfgA T0 T1 T2 hg).N) ⊢ iprop(BI.emp ∗ Pipeline.scopedRest spec0 c) := by
  rw [scopedRest0_eq, show (dats T0 T1 T2 hg m ρ 0 c).Φ (Fin.last (cfgA T0 T1 T2 hg).N) = Phi T0 T1 T2 hg m ρ c (Fin.last _) from rfl]
  unfold Phi
  iintro ⟨⟨%a0, -, HS0⟩, ⟨%a1, -, HS1⟩, -, -, -⟩
  isplitr; · iempintro
  isplitl [HS0]
  · iexists a0; iexact HS0
  iexists a1; iexact HS1

/-- What the launch memory holds of the tables. -/
def Pinned : Prop :=
  (∀ c : Dev nD, m ((c : Thread nD τ).loc main_arg3) = T0) ∧ (∀ c : Dev nD, m ((c : Thread nD τ).loc main_arg4) = T1)
  ∧ (∀ c : Dev nD, m ((c : Thread nD τ).loc main_arg5) = T2)

/-- The physical post: every array at what the library computes, every table at what the pipeline ran at. -/
def QC : PUnit × MemSt nD τ sig (Elt F) → Prop := fun r =>
  ∀ c : Dev nD, (∀ w : Fin (cfgA T0 T1 T2 hg).W, r.2.mem (((cfgA T0 T1 T2 hg).win w).arr.view.loc (c : Thread nD τ)) = (dats T0 T1 T2 hg m ρ 0 c).arrAt w (cfgA T0 T1 T2 hg).N)
    ∧ ∀ j, r.2.mem ((c : Thread nD τ).loc (pre0.ref j)) = (adm T0 T1 T2 hg).1 j

/-- The tables in memory are the ones the run is stated at. -/
theorem V_pre (hp : Pinned T0 T1 T2 m) (c : Dev nD) (j : Fin 3) : m ((c : Thread nD τ).loc (pre0.ref j)) = (adm T0 T1 T2 hg).1 j := by
  fin_cases j
  · exact hp.1 c
  · exact hp.2.1 c
  · exact hp.2.2 c

set_option backward.isDefEq.respectTransparency.types false in
set_option maxHeartbeats 4000000 in
/-- From any memory with zero counters whose tables are good: every weakly fair execution of @main on the TensorCores
    terminates, every final state has each array at the computed contents, and every semaphore counter at zero. -/
theorem run_main_quiescent (hp : Pinned T0 T1 T2 m) : θ_run (defs (F := F)) (onTc (τ := τ) (main (F := F))) (s₀ m ρ) (fun r => QC T0 T1 T2 hg m ρ r ∧ r.2.sem = fun _ => 0) :=
  Pipeline.θ_run_region_noSem_pf_quiescent pcfgs (fun _ => adm T0 T1 T2 hg) (dats T0 T1 T2 hg m ρ) () ((launch0 (F := F)).cellOf_inj fun _ => adm T0 T1 T2 hg) (0 : Fin 1)
    (launch0 (F := F)).win.to₀ (launch0 (F := F)).pre EP defs₀ Variants.none m ρ main
    (hbody := fun c => (body_obligation T0 T1 T2 hg m ρ c).loose) (hne := (launch0 (F := F)).block_pos)
    (harr := (launch0 (F := F)).arr_whole) (hstage := (launch0 (F := F)).stage_whole) (howed := fun _ _ => rfl)
    (u₀ := u₀ T0 T1 T2 hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 T2 hg) (dats T0 T1 T2 hg m ρ) 0 (launch0 (F := F)).win.arr_inj c (launch0 (F := F)).arr_whole
      (share_eq T0 T1 T2 hg m ρ c) _ _ fun _ => rfl)
    (hpf := V_pre T0 T1 T2 hg m hp)
    (X := fun _ => iprop(emp)) (Y := fun _ => iprop(emp)) (Z := fun _ => iprop(emp))
    (hX := fun c => by rw [unscopedRestP0_eq]; iintro -; isplitr <;> iempintro)
    (hin := phi0_intro T0 T1 T2 hg m ρ)
    (hout := phiN_exit T0 T1 T2 hg m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run: the output array as computed, the argument arrays unchanged, every semaphore counter at zero. -/
theorem run_values (hp : Pinned T0 T1 T2 m) :
    θ_run (defs (F := F)) (onTc (τ := τ) (main (F := F))) ⟨m, fun _ => 0, ρ⟩ (fun r => (∀ c : Dev nD,
      r.2.mem ((c.tc : Thread nD τ).loc main_v0) = (dats T0 T1 T2 hg m ρ 0 c).arrAt (3 : Fin 4) (cfgA T0 T1 T2 hg).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (3 : Fin 4),
    ((h.1 c).1 (0 : Fin 4)).trans ((dats T0 T1 T2 hg m ρ 0 c).arrAt_in (0 : Fin 4) rfl _), ((h.1 c).1 (1 : Fin 4)).trans ((dats T0 T1 T2 hg m ρ 0 c).arrAt_in (1 : Fin 4) rfl _), ((h.1 c).1 (2 : Fin 4)).trans ((dats T0 T1 T2 hg m ρ 0 c).arrAt_in (2 : Fin 4) rfl _),
    ((h.1 c).2 0).trans (hp.1 c).symm, ((h.1 c).2 1).trans (hp.2.1 c).symm, ((h.1 c).2 2).trans (hp.2.2 c).symm⟩, h.2⟩) (run_main_quiescent T0 T1 T2 hg m ρ hp)

include hg in
/-- The frame: the argument arrays end unchanged and every semaphore counter at zero. -/
theorem frame (hp : Pinned T0 T1 T2 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_values T0 T1 T2 hg m ρ hp)

end Cert.Kernel2Ideal.Moe

end
-- ==== Proof.MPre.lean ====
/- Hand-written: what the precondition says of the tables, entry by entry. -/
module

public import proofs.«01_k».proof.Proof.Gen.Pre_tables_laid
public import proofs.«01_k».proof.Proof.MTab
public import Idealize.ShloMosaic.Lib.ReduceAll
public import Idealize.ShloMosaic.Lib.Affine
public import Idealize.ShloMosaic.Lib.Pipeline.ValueKit

@[expose] public section

set_option maxRecDepth 16384

noncomputable section

open Idealize.ShloMosaic

namespace Cert.Kernel2Ideal.Moe

open Cert.Pre_tables_laid

variable {F : FTy → Type} [FloatOps F]

/-- A one-bit word that is one is true. -/
theorem ofBool_eq_one {b : Bool} (h : BitVec.ofBool b = 1#1) : b = true := by revert h; cases b <;> decide

/-- A word in a signed range from zero, as a number. -/
theorem lt_of_test {w u : BitVec 32} (hu : u.toNat < 2 ^ 31) (h0 : IntOp.cmpi .sge w 0#32 = 1#1) (h1 : IntOp.cmpi .slt w u = 1#1) : w.toNat < u.toNat := by
  have a := ofBool_eq_one h0
  have b := ofBool_eq_one h1
  simp only [BitVec.sle, BitVec.slt, decide_eq_true_eq, BitVec.toInt_eq_toNat_cond] at a b
  have := w.isLt
  simp at a
  omega
/-- The same with the upper end included. -/
theorem le_of_test {w u : BitVec 32} (hu : u.toNat < 2 ^ 31) (h0 : IntOp.cmpi .sge w 0#32 = 1#1) (h1 : IntOp.cmpi .sle w u = 1#1) : w.toNat ≤ u.toNat := by
  have a := ofBool_eq_one h0
  have b := ofBool_eq_one h1
  simp only [BitVec.sle, BitVec.slt, decide_eq_true_eq, BitVec.toInt_eq_toNat_cond] at a b
  have := w.isLt
  simp at a
  omega
/-- An equality test that holds. -/
theorem eq_of_test {w u : BitVec 32} (h : IntOp.cmpi .eq w u = 1#1) : w = u := by
  have a := ofBool_eq_one h
  simpa using a

/-- The precondition, read. -/
theorem good_of (X : S24576x2048.Idx → Elt F .bf16) (W1 W3 : S1x8x2048x7168.Idx → Elt F .f32) (T0 T1 T2 : S24.Idx → BitVec 32)
    (h : fn (F := F) X W1 W3 T0 T1 T2 = fun _ => 1#1) : Good T0 T1 T2 := by
  have e := congrFun h Idealize.ShloMosaic.ix0
  dsimp only [fn, fn_part1] at e
  have sub : Subsingleton S_.Idx := ⟨fun a b => by funext x; exact x.elim0⟩
  obtain ⟨e12, e3⟩ := IntOp.andi_eq_one.mp e
  obtain ⟨e1, e2⟩ := IntOp.andi_eq_one.mp e12
  have te : ∀ j : Fin 24, (T0 (ix1 j)).toNat < 8 := fun j => by
    obtain ⟨a, b⟩ := IntOp.andi_eq_one.mp (Host.reduce_andi_all _ _ _ _ _ e1 (ix1 j))
    exact lt_of_test (u := 8#32) (by decide) a b
  refine ⟨te, fun j hj => ?_, fun j => ?_⟩
  · rcases IntOp.ori_eq_one.mp (Host.reduce_andi_all _ _ _ _ _ e3 (ix1 j)) with a | a
    · refine absurd ?_ hj
      have a' : T1 (ix1 j) = 1#32 := eq_of_test a
      rw [a']; decide
    · have a' := eq_of_test a
      by_cases hz : 0 < j.val
      · refine ⟨hz, a'.trans ?_⟩
        exact (concatenate_pair_apply_right (t := Cert.Pre_tables_laid.S24) (s₁ := Cert.Pre_tables_laid.S1) (s₂ := S23) 0 _ _ _ (ix1 j) rfl rfl (ix1 (⟨j.val - 1, by omega⟩ : Fin 23)) (fun b hb => absurd (Subsingleton.elim (α := Fin 1) _ _) hb)
          (by show j.val - 1 + 1 = j.val; omega)).trans (by pointwise)
      · exfalso
        have h8 := te j
        obtain rfl : j = 0 := Fin.ext (by show j.val = 0; omega)
        rw [a', concatenate_pair_apply_left (t := Cert.Pre_tables_laid.S24) (s₁ := Cert.Pre_tables_laid.S1) (s₂ := S23) 0 _ _ _ (ix1 (0 : Fin 24)) rfl (ix1 (0 : Fin 1)) (fun b => by obtain rfl : b = (0 : Fin 1) := Subsingleton.elim (α := Fin 1) _ _; rfl)] at h8
        exact absurd h8 (by decide)
  · obtain ⟨a, b⟩ := IntOp.andi_eq_one.mp (Host.reduce_andi_all _ _ _ _ _ e2 (ix1 j))
    exact le_of_test (u := 1024#32) (by decide) a b

end Cert.Kernel2Ideal.Moe

end
-- ==== Proof.MVal.lean ====
/- Hand-written: the array the mixture's first half leaves, entry by entry. -/
module

public import proofs.«01_k».proof.Proof.Gen.On_rows_used
public import proofs.«01_k».proof.Proof.MFrame
public import proofs.«01_k».proof.Proof.MPre
public import Idealize.ShloMosaic.Lib.Pipeline.ValueKit
@[expose] public section
set_option maxRecDepth 16384
noncomputable section
open Idealize.ShloMosaic Idealize.ShloMosaic.TcCoe Idealize.SL.Sem
open scoped BigOperators
namespace Cert.Kernel2Ideal.Moe
open Cert.Kernel2Ideal Cert.Kernel2Ideal.Gen

/-- One entry of the gated product. -/
def gp (a b : EReal) : EReal := a * Ideal.logistic a * b

set_option maxHeartbeats 8000000 in
/-- The rows of an output block that the steps cover hold the gated product. -/
theorem outv_at (k : Fin 9) (x0 : S1024x2048.Idx → Elt Ideal .bf16) (y0 y1 : S2048x1024.Idx → Elt Ideal .bf16) (r : Fin 1024) (j : Fin 1024) (h : r.val < 128 * k.val):
   outv (F := Ideal) k x0 y0 y1 (ix2 r j) = gp (∑ q : Fin 2048, x0 (ix2 r q) * y0 (ix2 q j)) (∑ q : Fin 2048, x0 (ix2 r q) * y1 (ix2 q j)) := by
  have hc := pieces_cover k x0 y0 y1 (ix2 r j)
  have hk9 : k = 0 ∨ k = 1 ∨ k = 2 ∨ k = 3 ∨ k = 4 ∨ k = 5 ∨ k = 6 ∨ k = 7 ∨ k = 8 := by clear hc h; revert k; decide
  unfold outv
  rw [View.read_writes_junk_eq_canon]
  rcases hk9 with rfl | rfl | rfl | rfl | rfl | rfl | rfl | rfl | rfl
  · exact absurd h (by simp)
  all_goals
    unfold pieces at hc ⊢
    dsimp only at hc ⊢
    norm_num at h
    canon_tiles x hx using hc
  all_goals
    clear hc
    replace hx0 : r.val = _ := hx0
    replace hx1 : j.val = _ := hx1
    first
    | (exfalso; omega)
    | (obtain ⟨p, q, rfl⟩ : ∃ p q, x = ix2 p q := ⟨x 0, x 1, by funext a; fin_cases a <;> rfl⟩
       obtain rfl : r = ⟨p.val, Nat.lt_of_lt_of_le p.isLt (by decide)⟩ := Fin.ext hx0
       obtain rfl : j = q := Fin.ext hx1
       clear hx0 hx1 x0_lt x1_lt h
       by_cases hj : j.val < 512
       · obtain ⟨i, rfl⟩ : ∃ i : Fin 512, j = ⟨i.val, Nat.lt_of_lt_of_le i.isLt (by decide)⟩ := ⟨⟨j.val, hj⟩, rfl⟩
         open_payloads
         pointwise
         rfl
       · obtain ⟨i, rfl⟩ : ∃ i : Fin 512, j = ⟨512 + i.val, Nat.add_lt_add_left i.isLt 512⟩ := ⟨⟨j.val - 512, by have := j.isLt; omega⟩, Fin.ext (by show j.val = 512 + (j.val - 512); omega)⟩
         open_payloads
         pointwise
         rfl)

/-- One entry of the whole product: the row's tile names the expert. -/
def Y (X : S24576x2048.Idx → EReal) (W1 W3 : S1x8x2048x7168.Idx → EReal) (e : Fin 8) (r : Fin 24576) (j : Fin 7168) : EReal :=
  gp (∑ q : Fin 2048, X (ix2 r q) * W1 (ix4 0 e q j)) (∑ q : Fin 2048, X (ix2 r q) * W3 (ix4 0 e q j))

variable (T0 T1 T2 : S24.Idx → BitVec 32) (hg : Good T0 T1 T2) (m : (ℓ : Loc nD τ sig) → Buf (Elt Ideal) ℓ) (ρ : Dev nD → PrngReg)

/-- The row and column blocks of a point, as the two maps that do not look at the tables name them. -/
theorem ix_0 (i : grid0.Coords) : cc0_transform_0 i = ![(i 1).val, 0] := by
  have h : ∀ i : grid0.Coords, (BitVec.ofNat 32 (i 1).val).toNat = (i 1).val := by decide +kernel
  show ![(BitVec.ofNat 32 (i 1).val).toNat, 0] = _
  rw [h]
/-- The output's block: the tile's rows, the point's columns. -/
theorem ix_3 (i : grid0.Coords) : cc0_transform_3 i = ![(i 1).val, (i 0).val] := by
  have h : ∀ i : grid0.Coords, (BitVec.ofNat 32 (i 1).val).toNat = (i 1).val ∧ (BitVec.ofNat 32 (i 0).val).toNat = (i 0).val := by decide +kernel
  show ![(BitVec.ofNat 32 (i 1).val).toNat, (BitVec.ofNat 32 (i 0).val).toNat] = _
  rw [(h i).1, (h i).2]

/-- The three input blocks of a point, in the arrays' coordinates. -/
theorem iblk0_at (c : Dev nD) (t : Fin (cfgA (F := Ideal) T0 T1 T2 hg).N) (r : Fin 1024) (q : Fin 2048) (i : Fin 24576) (hi : i.val = 1024 * (t.val % 24) + r.val) :
    (iblk T0 T1 T2 hg m ρ c (0 : Fin 4) t : S1024x2048.Idx → EReal) (ix2 r q) = (m ((c : Thread nD τ).loc main_arg0) : S24576x2048.Idx → EReal) (ix2 i q) := by
  have h := (crd_val t).2
  have hx : ((cfgA T0 T1 T2 hg).win (0 : Fin 4)).index t = ![(grid0.coords t 1).val, 0] := ix_0 _
  show m ((c : Thread nD τ).loc main_arg0) _ = m ((c : Thread nD τ).loc main_arg0) _
  refine congrArg _ (funext fun a => Fin.ext ?_)
  show ((cfgA T0 T1 T2 hg).win (0 : Fin 4)).index t a * _ + 1 * _ = _
  rw [hx]
  fin_cases a
  · show (grid0.coords t 1).val * 1024 + 1 * r.val = i.val
    omega
  · show 0 * 2048 + 1 * q.val = q.val
    omega
/-- The first kept weight, in the weight array's coordinates. -/
theorem iblk1_at (c : Dev nD) (t : Fin (cfgA (F := Ideal) T0 T1 T2 hg).N) (q : Fin 2048) (j : Fin 1024) (e : Fin 8) (he : e.val = (T0 (ix1 (tile (F := Ideal) T0 T1 T2 hg t))).toNat) (i : Fin 7168) (hi : i.val = 1024 * (t.val / 24) + j.val) :
    (y0v T0 T1 T2 hg m ρ c t : S2048x1024.Idx → EReal) (ix2 q j) = (m ((c : Thread nD τ).loc main_arg1) : S1x8x2048x7168.Idx → EReal) (ix4 0 e q i) := by
  have h := (crd_val t).1
  have hx : ((cfgA T0 T1 T2 hg).win (1 : Fin 4)).index t = ![0, e.val, 0, (grid0.coords t 0).val] := by rw [he]; exact ix_1 T0 T1 T2 _
  unfold y0v k0_pay12
  pointwise
  show m ((c : Thread nD τ).loc main_arg1) _ = m ((c : Thread nD τ).loc main_arg1) _
  refine congrArg _ (funext fun a => Fin.ext ?_)
  show ((cfgA T0 T1 T2 hg).win (1 : Fin 4)).index t a * _ + 1 * _ = _
  rw [hx]
  fin_cases a
  · rfl
  · show e.val * 1 + 1 * 0 = e.val
    omega
  · show 0 * 2048 + 1 * q.val = q.val
    omega
  · show (grid0.coords t 0).val * 1024 + 1 * j.val = i.val
    omega
/-- The second kept weight, in the weight array's coordinates. -/
theorem iblk2_at (c : Dev nD) (t : Fin (cfgA (F := Ideal) T0 T1 T2 hg).N) (q : Fin 2048) (j : Fin 1024) (e : Fin 8) (he : e.val = (T0 (ix1 (tile (F := Ideal) T0 T1 T2 hg t))).toNat) (i : Fin 7168) (hi : i.val = 1024 * (t.val / 24) + j.val) :
    (y1v T0 T1 T2 hg m ρ c t : S2048x1024.Idx → EReal) (ix2 q j) = (m ((c : Thread nD τ).loc main_arg2) : S1x8x2048x7168.Idx → EReal) (ix4 0 e q i) := by
  have h := (crd_val t).1
  have hx : ((cfgA T0 T1 T2 hg).win (2 : Fin 4)).index t = ![0, e.val, 0, (grid0.coords t 0).val] := by rw [he]; exact ix_2 T0 T1 T2 _
  unfold y1v k0_pay13
  pointwise
  show m ((c : Thread nD τ).loc main_arg2) _ = m ((c : Thread nD τ).loc main_arg2) _
  refine congrArg _ (funext fun a => Fin.ext ?_)
  show ((cfgA T0 T1 T2 hg).win (2 : Fin 4)).index t a * _ + 1 * _ = _
  rw [hx]
  fin_cases a
  · rfl
  · show e.val * 1 + 1 * 0 = e.val
    omega
  · show 0 * 2048 + 1 * q.val = q.val
    omega
  · show (grid0.coords t 0).val * 1024 + 1 * j.val = i.val
    omega

/-- The output blocks tile the array. -/
theorem covers3 : ((cfgA (F := Ideal) T0 T1 T2 hg).win (3 : Fin 4)).Covers := by
  have h : ∀ (a : Fin 24) (b : Fin 7), ∃ t : Fin grid0.N, (grid0.coords t 1).val = a.val ∧ (grid0.coords t 0).val = b.val := by decide +kernel
  refine ⟨fun a => ?_, fun β => ?_⟩
  · fin_cases a <;> exact Nat.zero_lt_succ _
  · have n0 : ((cfgA (F := Ideal) T0 T1 T2 hg).win (3 : Fin 4)).nblk (0 : Fin 2) = 24 := by show (24576 + 1024 - 1) / 1024 = 24; decide
    have n1 : ((cfgA (F := Ideal) T0 T1 T2 hg).win (3 : Fin 4)).nblk (1 : Fin 2) = 7 := by show (7168 + 1024 - 1) / 1024 = 7; decide
    obtain ⟨t, ha, hb⟩ := h ⟨(β (0 : Fin 2)).val, n0 ▸ (β (0 : Fin 2)).isLt⟩ ⟨(β (1 : Fin 2)).val, n1 ▸ (β (1 : Fin 2)).isLt⟩
    refine ⟨t, flush3 T0 T1 T2 hg t, fun a => ⟨?_, Or.inl rfl⟩⟩
    show cc0_transform_3 (grid0.coords t) a = _
    rw [ix_3]
    fin_cases a
    · exact ha
    · exact hb

/-- The rows the mask selects are rows the tile's count covers. -/
theorem rows_of_mask (X : S24576x2048.Idx → Elt Ideal .bf16) (W1 W3 : S1x8x2048x7168.Idx → Elt Ideal .f32) (htr : ∀ j : Fin 24, (T2 (ix1 j)).toNat ≤ 1024)
    (r : Fin 24576) (j : Fin 7168) (h : Cert.On_rows_used.fn (F := Ideal) X W1 W3 T0 T1 T2 (ix2 r j) = 1#1) : r.val % 1024 < (T2 (ix1 ⟨r.val / 1024, by omega⟩)).toNat := by
  revert h; unfold Cert.On_rows_used.fn
  pointwise
  intro h
  have hw := htr ⟨r.val / 1024, by omega⟩
  generalize T2 (ix1 ⟨r.val / 1024, by omega⟩) = w at h hw ⊢
  have hk : r.val % 1024 < 1024 := Nat.mod_lt _ (by decide)
  generalize r.val % 1024 = k at h hk ⊢
  have h := ofBool_eq_one h
  have h : (BitVec.ofNat 32 k).toInt < w.toInt := of_decide_eq_true h
  have e1 : (BitVec.ofNat 32 k).toInt = (k : Int) := by
    rw [BitVec.toInt_eq_toNat_of_lt (by rw [BitVec.toNat_ofNat]; omega), BitVec.toNat_ofNat]; omega
  rw [e1, BitVec.toInt_eq_toNat_of_lt (by omega)] at h
  omega

/-- Where the count covers its row, an entry the kernel leaves is the whole product's. -/
theorem final_at (c : Dev nD) (r : Fin 24576) (j : Fin 7168) (e : Fin 8) (he : e.val = (T0 (ix1 ⟨r.val / 1024, by omega⟩)).toNat)
    (hr : r.val % 1024 < (T2 (ix1 ⟨r.val / 1024, by omega⟩)).toNat) :
    ((dats T0 T1 T2 hg m ρ 0 c).arrAt (3 : Fin 4) (cfgA (F := Ideal) T0 T1 T2 hg).N : S24576x7168.Idx → EReal) (ix2 r j)
      = Y (m ((c : Thread nD τ).loc main_arg0)) (m ((c : Thread nD τ).loc main_arg1)) (m ((c : Thread nD τ).loc main_arg2)) e r j := by
  refine (dats T0 T1 T2 hg m ρ 0 c).arrAt_forall_of_covers (3 : Fin 4) (fun i v => i = (ix2 r j : S24576x7168.Idx) → (v : EReal) = Y (m ((c : Thread nD τ).loc main_arg0)) (m ((c : Thread nD τ).loc main_arg1)) (m ((c : Thread nD τ).loc main_arg2)) e r j)
    (covers3 T0 T1 T2 hg) (fun t hf y hy => ?_) (ix2 r j) (Memref.isWhole_whole _) rfl
  obtain ⟨ca, cb⟩ := crd_val t
  obtain ⟨p, q, rfl⟩ : ∃ (p q : Fin 1024), y = (ix2 p q : S1024x1024.Idx) := ⟨y (0 : Fin 2), y (1 : Fin 2), by funext a; fin_cases a <;> rfl⟩
  have h0 : r.val = 1024 * (t.val % 24) + p.val := by
    have := congrArg (fun i : S24576x7168.Idx => (i 0).val) hy
    have this : cc0_transform_3 (grid0.coords t) 0 * 1024 + 1 * p.val = r.val := this
    rw [ix_3] at this
    have this : (grid0.coords t 1).val * 1024 + 1 * p.val = r.val := this
    omega
  have h1 : j.val = 1024 * (t.val / 24) + q.val := by
    have := congrArg (fun i : S24576x7168.Idx => (i 1).val) hy
    have this : cc0_transform_3 (grid0.coords t) 1 * 1024 + 1 * q.val = j.val := this
    rw [ix_3] at this
    have this : (grid0.coords t 0).val * 1024 + 1 * q.val = j.val := this
    omega
  have hp := p.isLt
  have et : (⟨r.val / 1024, by omega⟩ : Fin 24) = tile (F := Ideal) T0 T1 T2 hg t := Fin.ext (by show r.val / 1024 = (grid0.coords t 1).val; omega)
  rw [et] at he hr
  show (after3 T0 T1 T2 hg m ρ c t : S1024x1024.Idx → EReal) (ix2 p q) = _
  unfold after3
  refine (outv_at _ _ _ _ p q ?_).trans ?_
  · have hle := hg.tr (tile (F := Ideal) T0 T1 T2 hg t)
    generalize T2 (ix1 (tile (F := Ideal) T0 T1 T2 hg t)) = w at hr hle
    show p.val < 128 * (((w.toNat + 127) / 128) % 9)
    omega
  · unfold Y
    refine congrArg₂ gp (Finset.sum_congr rfl fun s _ => ?_) (Finset.sum_congr rfl fun s _ => ?_)
    · exact congrArg₂ (· * ·) (iblk0_at T0 T1 T2 hg m ρ c t p s r h0) (iblk1_at T0 T1 T2 hg m ρ c t s q e he j h1)
    · exact congrArg₂ (· * ·) (iblk0_at T0 T1 T2 hg m ρ c t p s r h0) (iblk2_at T0 T1 T2 hg m ρ c t s q e he j h1)

end Cert.Kernel2Ideal.Moe
end
-- ==== Proof.MRef.lean ====
/- Hand-written: the mixture's first half as the reference computes it, entry by entry. -/
module

public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.StableHlo
open scoped BigOperators

namespace Cert.Reference2Ideal.Moe
open Cert.Reference2Ideal Cert.Reference2Ideal.Gen Cert.Reference2Ideal.Value

variable (V0 : Valuation τ sig (Elt Ideal))

/-- The rows' word: the expert of the row's tile. -/
theorem v3_at (r : Fin 24576) : res_main_v3 V0 (ix2 r 0) = (V0 (Proc.devRef .tc main_arg3) : S24.Idx → BitVec 32) (ix1 ⟨r.val / 1024, by omega⟩) := by
  unfold res_main_v3
  pointwise

/-- One expert's product at an entry. -/
def dotE (X : S24576x2048.Idx → EReal) (W : S1x8x2048x7168.Idx → EReal) (e : Fin 8) (r : Fin 24576) (j : Fin 7168) : EReal :=
  ∑ q : Fin 2048, X (ix2 r q) * W (ix4 0 e q j)

/-- One expert's two products at an entry, and its gated term. -/
def pa (e : Fin 8) (r : Fin 24576) (j : Fin 7168) : EReal := dotE (V0 (Proc.devRef .tc main_arg0)) (V0 (Proc.devRef .tc main_arg1)) e r j
/-- The product with the second weight. -/
def pb (e : Fin 8) (r : Fin 24576) (j : Fin 7168) : EReal := dotE (V0 (Proc.devRef .tc main_arg0)) (V0 (Proc.devRef .tc main_arg2)) e r j
/-- The gated term of one expert. -/
def term (e : Fin 8) (r : Fin 24576) (j : Fin 7168) : EReal := pa V0 e r j * Ideal.logistic (pa V0 e r j) * pb V0 e r j

/-- The eight products with the first weight, one for each expert. -/
theorem prods_at (r : Fin 24576) (j : Fin 7168) :
    res_main_v9 V0 (ix2 r j) = pa V0 0 r j
    ∧ res_main_v21 V0 (ix2 r j) = pa V0 1 r j
    ∧ res_main_v33 V0 (ix2 r j) = pa V0 2 r j
    ∧ res_main_v45 V0 (ix2 r j) = pa V0 3 r j
    ∧ res_main_v57 V0 (ix2 r j) = pa V0 4 r j
    ∧ res_main_v69 V0 (ix2 r j) = pa V0 5 r j
    ∧ res_main_v81 V0 (ix2 r j) = pa V0 6 r j
    ∧ res_main_v93 V0 (ix2 r j) = pa V0 7 r j := by
  refine ⟨?_, ?_, ?_, ?_, ?_, ?_, ?_, ?_⟩ <;>
  · simp only [res_main_v0, res_main_v9, res_main_v21, res_main_v33, res_main_v45, res_main_v57, res_main_v69, res_main_v81, res_main_v93]
    pointwise
    rfl

/-- A gated term where the row's word is the expert's, nothing elsewhere. -/
def pick (w : BitVec 32) (e : Fin 8) (r : Fin 24576) (j : Fin 7168) : EReal :=
  Scalar.select (IntOp.cmpi .eq w (BitVec.ofNat 32 e.val)) (term V0 e r j) 0

set_option maxHeartbeats 4000000 in
/-- The output at an entry is the sum of the experts' picks. -/
theorem out_at (r : Fin 24576) (j : Fin 7168) (w : BitVec 32) (hw : res_main_v3 V0 (ix2 r 0) = w) :
    (val2 V0 (Proc.devRef .tc main_v101) : S24576x7168.Idx → EReal) (ix2 r j)
      = pick V0 w 0 r j + pick V0 w 1 r j + pick V0 w 2 r j + pick V0 w 3 r j + pick V0 w 4 r j + pick V0 w 5 r j + pick V0 w 6 r j + pick V0 w 7 r j := by
  have hz : (id (constant (F := Ideal) S_ FTy.f32 0#32) Idealize.ShloMosaic.ix0 : EReal) = 0 := Ideal.ofBits_zero_f32
  rw [val2_main_v101]
  unfold res_main_v64 res_main_v0
  pointwise
  obtain ⟨p0, p1, p2, p3, p4, p5, p6, p7⟩ := prods_at V0 r j
  rw [hw, p0, p1, p2, p3, p4, p5, p6, p7]
  rw [hz]
  rfl

/-- A pick is its term at its own word, and zero elsewhere. -/
theorem pick_if (d e : Fin 8) (r : Fin 24576) (j : Fin 7168) : pick V0 (BitVec.ofNat 32 d.val) e r j = if d = e then term V0 d r j else 0 := by
  unfold pick
  by_cases h : d = e
  · subst h
    have h : IntOp.cmpi .eq (BitVec.ofNat 32 d.val) (BitVec.ofNat 32 d.val) = 1#1 := by revert d; decide
    rw [h, if_pos rfl]; rfl
  · have h' : IntOp.cmpi .eq (BitVec.ofNat 32 d.val) (BitVec.ofNat 32 e.val) = 0#1 := by revert d e; decide
    rw [h', if_neg h]; rfl

/-- The output at an entry is the gated term of the row's expert. -/
theorem ref_at (r : Fin 24576) (j : Fin 7168) (e : Fin 8) (he : e.val = ((V0 (Proc.devRef .tc main_arg3) : S24.Idx → BitVec 32) (ix1 ⟨r.val / 1024, by omega⟩)).toNat) :
    (val2 V0 (Proc.devRef .tc main_v101) : S24576x7168.Idx → EReal) (ix2 r j) = term V0 e r j := by
  rw [out_at V0 r j (BitVec.ofNat 32 e.val) ((v3_at V0 r).trans (by rw [he, BitVec.ofNat_toNat, BitVec.setWidth_eq]))]
  simp only [pick_if]
  generalize term V0 e r j = x
  revert e
  intro e _
  fin_cases e <;> simp

end Cert.Reference2Ideal.Moe

end
-- ==== Proof.MEq.lean ====
/- Hand-written: the mixture's first half, kernel against reference, and the frames of its programs. -/
module

public import proofs.«01_k».proof.Defs
public import proofs.«01_k».proof.Proof.MVal
public import proofs.«01_k».proof.Proof.MRef
public import proofs.«01_k».proof.Proof.Gen.Kernel2
public import Idealize.ShloMosaic.Adequacy
public import Idealize.ShloMosaic.Init

@[expose] public section

set_option maxRecDepth 16384

noncomputable section

open Idealize.ShloMosaic Idealize.ShloMosaic.TcCoe Idealize.SL.Sem

namespace Cert.Proof

/-- The kernel ends with its arguments as they were and its counters at zero, at the algebra. -/
theorem frame_mixtureIdeal : Cert.quiescent_Kernel2Ideal := fun m ρ hpre =>
  Cert.Kernel2Ideal.Moe.frame _ _ _ (Cert.Kernel2Ideal.Moe.good_of _ _ _ _ _ _ (hpre 0)) m ρ
    ⟨fun c => by rw [Subsingleton.elim c 0], fun c => by rw [Subsingleton.elim c 0], fun c => by rw [Subsingleton.elim c 0]⟩

/-- The two programs of the kernel define one body, over any float values. -/
theorem defs_eq {F : FTy → Type} [FloatOps F] : Cert.Kernel2.defs (F := F) = Cert.Kernel2Ideal.defs (F := F) := by
  have h : Cert.Kernel2.defs₀ (F := F) = Cert.Kernel2Ideal.defs₀ (F := F) := by
    unfold Cert.Kernel2.defs₀ Cert.Kernel2Ideal.defs₀
    refine congrArg (Defs.onTc (nD := Cert.Kernel2.nD) (τ := Cert.Kernel2.τ) (sig := Cert.Kernel2.sig) (Λ := Cert.Kernel2.Λ₀)) (funext fun l => ?_)
    obtain rfl : l = 0 := Subsingleton.elim _ _
    rfl
  unfold Cert.Kernel2.defs Cert.Kernel2Ideal.defs
  exact congrArg (Pipeline.defs _) h

/-- The same over the bit patterns: the one run, at other values. -/
theorem frame_mixture : Cert.quiescent_Kernel2 := fun m ρ hpre => by
  rw [defs_eq]
  exact Cert.Kernel2Ideal.Moe.frame (F := Bits) _ _ _ (Cert.Kernel2Ideal.Moe.good_of _ _ _ _ _ _ (hpre 0)) m ρ
    ⟨fun c => by rw [Subsingleton.elim c 0], fun c => by rw [Subsingleton.elim c 0], fun c => by rw [Subsingleton.elim c 0]⟩

/-- The reference of the mixture ends and leaves its arguments as they were. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- On one device's arrays: where the mask holds, the kernel's entry is the reference's. -/
theorem same_mixture (T0 T1 T2 : Cert.Kernel2Ideal.S24.Idx → BitVec 32) (hg : Cert.Kernel2Ideal.Moe.Good T0 T1 T2)
    (m : (ℓ : Loc Cert.Kernel2Ideal.nD Cert.Kernel2Ideal.τ Cert.Kernel2Ideal.sig) → Buf (Elt Ideal) ℓ) (ρ : Dev Cert.Kernel2Ideal.nD → PrngReg)
    (m' : (ℓ : Loc Cert.Reference2Ideal.nD Cert.Reference2Ideal.τ Cert.Reference2Ideal.sig) → Buf (Elt Ideal) ℓ) (c : Dev Cert.Kernel2Ideal.nD)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = T0)
    (X : Cert.Kernel2Ideal.S24576x2048.Idx → Elt Ideal .bf16) (W1 W3 : Cert.Kernel2Ideal.S1x8x2048x7168.Idx → Elt Ideal .f32)
    (i : Cert.Kernel2Ideal.S24576x7168.Idx) (h : Cert.On_rows_used.fn (F := Ideal) X W1 W3 T0 T1 T2 i = 1#1) :
    (Cert.Reference2Ideal.Value.val2 (StableHlo.launchContents m' c) (Proc.devRef .tc Cert.Reference2Ideal.main_v101) : Cert.Kernel2Ideal.S24576x7168.Idx → EReal) i
      = ((Cert.Kernel2Ideal.Moe.dats T0 T1 T2 hg m ρ 0 c).arrAt (3 : Fin 4) (Cert.Kernel2Ideal.Moe.cfgA (F := Ideal) T0 T1 T2 hg).N : Cert.Kernel2Ideal.S24576x7168.Idx → EReal) i := by
  obtain ⟨r, j, rfl⟩ : ∃ (r : Fin 24576) (j : Fin 7168), i = ix2 r j := ⟨i 0, i 1, by funext a; fin_cases a <;> rfl⟩
  have hr := Cert.Kernel2Ideal.Moe.rows_of_mask T0 T1 T2 X W1 W3 hg.tr r j h
  have he := hg.te ⟨r.val / 1024, by omega⟩
  refine (Cert.Reference2Ideal.Moe.ref_at (StableHlo.launchContents m' c) r j ⟨_, he⟩ ?_).trans (Eq.trans (b := Cert.Kernel2Ideal.Moe.Y (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) ⟨_, he⟩ r j) ?_ (Cert.Kernel2Ideal.Moe.final_at T0 T1 T2 hg m ρ c r j ⟨_, he⟩ rfl hr).symm)
  · show _ = BitVec.toNat ((m' ((c.tc : Thread Cert.Reference2Ideal.nD Cert.Reference2Ideal.τ).loc Cert.Reference2Ideal.main_arg3) : Cert.Kernel2Ideal.S24.Idx → BitVec 32) _)
    rw [e3]
  · show Cert.Kernel2Ideal.Moe.Y (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) _ r j = _
    rw [e0, e1, e2]

/-- On the same inputs, wherever the mask holds, the kernel's result is the reference's. -/
theorem value_mixture : Cert.algebraic_Kernel2Ideal_Reference2Ideal_on_rows_used := by
  intro m g m' g' hpre hargs
  have hg := Cert.Kernel2Ideal.Moe.good_of _ _ _ _ _ _ (hpre 0)
  refine ⟨fun c => Cert.Reference2Ideal.Value.val2 (StableHlo.launchContents m' c) (Proc.devRef .tc Cert.Reference2Ideal.main_v101), ?_, ?_⟩
  · refine (θ_run _ _ _).mono (fun r h c => ?_) (Cert.Kernel2Ideal.Moe.run_values _ _ _ hg m g
      ⟨fun c => by rw [Subsingleton.elim c 0], fun c => by rw [Subsingleton.elim c 0], fun c => by rw [Subsingleton.elim c 0]⟩)
    obtain ⟨hv, ha⟩ := h.1 c
    refine ⟨fun i hi => ?_, ha⟩
    obtain rfl : c = 0 := Subsingleton.elim c 0
    obtain ⟨e0, e1, e2, e3, -, -⟩ := hargs 0
    exact (congrFun hv i).trans (same_mixture _ _ _ hg m g m' 0 e0 e1 e2 e3 _ _ _ i hi).symm
  · refine (θ_run _ _ _).mono (fun r h c => ?_) (Cert.Reference2Ideal.Value.run m' g')
    obtain ⟨hv, ha⟩ := h c
    exact ⟨fun i _ => congrFun (hv.trans (Cert.Reference2Ideal.Value.val2_main_v101 (StableHlo.launchContents m' c)).symm) i, ha⟩

end Cert.Proof

end
-- ==== Proof.DRun.lean ====
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and the scratch the kernel is handed, whole. -/
abbrev tb0 : Memref sig .tc .smem S24 .i32 := Memref.whole main_arg2
abbrev tb1 : Memref sig .tc .smem S24 .i32 := Memref.whole main_arg3
abbrev tb2 : Memref sig .tc .smem S24 .i32 := Memref.whole main_arg4
abbrev sc0 : Memref sig .tc .vmem S7168x512 .bf16 := Memref.whole cc0_scratch0

/-- The word of the marks that the body reads at a point, and the word of the row counts. -/
abbrev wf (i : grid0.Coords) (T1 : S24.Idx → Elt F .i32) : Elt F .i32 :=
  View.readAt (Elt F) tb1.view (Rect.unit (s := S24) (k0_off1 i) S1.size (k0_off1_inb i)).toLoadRect T1 (Shape.Idx.first (numel1_S1.symm ▸ Nat.one_pos))
abbrev wr (i : grid0.Coords) (T2 : S24.Idx → Elt F .i32) : Elt F .i32 :=
  View.readAt (Elt F) tb2.view (Rect.unit (s := S24) (k0_off2 i) S1.size (k0_off2_inb i)).toLoadRect T2 (Shape.Idx.first (numel1_S1.symm ▸ Nat.one_pos))

/-- Which half of its tile a point handles, as the body computes it: the remainder of the second coordinate by two. -/
abbrev part (i : grid0.Coords) : BitVec 32 :=
  Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32))
    (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))

/-- Whether a point copies its weight block: its tile is marked and it is the tile's first half. -/
abbrev Copy (i : grid0.Coords) (w : BitVec 32) : Prop :=
  Scalar.cmpi .ne (Scalar.extui (Scalar.andi (Scalar.cmpi .eq w 1#32) (Scalar.cmpi .eq (part i) 0#32))) 0#32 = 1#1

/-- What the body stores into its output block at `k` row steps, last store first: `128 k` rows of the
    product of the row block and the kept weight block, and zeros below them. -/
def pieces (k : Fin 5) (x0 : S512x7168.Idx → Elt F .bf16) (y : S7168x512.Idx → Elt F .bf16) : List (View.Piece (Elt F) S512x512 .f32) :=
  match k with
  | 0 => [⟨Rect.unit (s := S512x512) ![0, 0] S512x512.size inb_S512x512_S512x512_0_0, k0_pay2⟩]
  | 1 => [⟨Rect.unit (s := S512x512) ![128, 0] S384x512.size inb_S512x512_S384x512_128_0, k0_pay4⟩,
      ⟨Rect.unit (s := S512x512) ![0, 0] S128x512.size inb_S512x512_S128x512_0_0, k0_pay3 (View.ld x0 (Rect.unit (s := S512x7168) ![0, 0] S128x7168.size inb_S512x7168_S128x7168_0_0)) (View.ld y (Rect.unit (s := S7168x512) ![0, 0] S7168x512.size inb_S7168x512_S7168x512_0_0))⟩]
  | 2 => [⟨Rect.unit (s := S512x512) ![256, 0] S256x512.size inb_S512x512_S256x512_256_0, k0_pay6⟩,
      ⟨Rect.unit (s := S512x512) ![0, 0] S256x512.size inb_S512x512_S256x512_0_0, k0_pay5 (View.ld x0 (Rect.unit (s := S512x7168) ![0, 0] S256x7168.size inb_S512x7168_S256x7168_0_0)) (View.ld y (Rect.unit (s := S7168x512) ![0, 0] S7168x512.size inb_S7168x512_S7168x512_0_0))⟩]
  | 3 => [⟨Rect.unit (s := S512x512) ![384, 0] S128x512.size inb_S512x512_S128x512_384_0, k0_pay8⟩,
      ⟨Rect.unit (s := S512x512) ![0, 0] S384x512.size inb_S512x512_S384x512_0_0, k0_pay7 (View.ld x0 (Rect.unit (s := S512x7168) ![0, 0] S384x7168.size inb_S512x7168_S384x7168_0_0)) (View.ld y (Rect.unit (s := S7168x512) ![0, 0] S7168x512.size inb_S7168x512_S7168x512_0_0))⟩]
  | 4 => [⟨Rect.unit (s := S512x512) ![0, 0] S512x512.size inb_S512x512_S512x512_0_0, k0_pay9 (View.ld x0 (Rect.unit (s := S512x7168) ![0, 0] S512x7168.size inb_S512x7168_S512x7168_0_0)) (View.ld y (Rect.unit (s := S7168x512) ![0, 0] S7168x512.size inb_S7168x512_S7168x512_0_0))⟩]

/-- The stores fill the block, whatever the number of steps. -/
theorem pieces_cover (k : Fin 5) (x0 : S512x7168.Idx → Elt F .bf16) (y : S7168x512.Idx → Elt F .bf16) (z : S512x512.Idx) :
    ∃ p ∈ pieces k x0 y, z ∈ p.1.set := by
  revert z
  fin_cases k <;> exact View.cover_of_tiledBy _ ![128, 512] (by sl_kernel_rfl)

/-- One output buffer, through which a block's contents are stated. -/
abbrev VO : View sig .tc .vmem S512x512 .f32 := (Memref.whole cc0_stg2_0 : Memref sig .tc .vmem S512x512 .f32).view

/-- The output block at `k` row steps. -/
def outv (k : Fin 5) (x0 : S512x7168.Idx → Elt F .bf16) (y : S7168x512.Idx → Elt F .bf16) : S512x512.Idx → Elt F .f32 :=
  VO.read (Elt F) (VO.writes (Elt F) VO.junk (pieces k x0 y))

/-- Of the five conditions on the row count, the one for `k` steps holds and no other does. -/
def Steps (i : grid0.Coords) (w : BitVec 32) (k : Fin 5) : Prop :=
  (k0_cond2 i w = 1#1 ↔ k = 0) ∧ (k0_cond3 i w = 1#1 ↔ k = 1) ∧ (k0_cond4 i w = 1#1 ↔ k = 2) ∧ (k0_cond5 i w = 1#1 ↔ k = 3)
  ∧ (k0_cond6 i w = 1#1 ↔ k = 4)
instance (i : grid0.Coords) (w : BitVec 32) (k : Fin 5) : Decidable (Steps i w k) := by unfold Steps; infer_instance

/-- A load of a buffer stored whole, at a rectangle. -/
theorem readCov_whole {s : Shape} {e : EltTy} {sp : Space} (v : View sig .tc sp s e) {off : Fin s.rank → ℕ} (inb : ∀ a, off a + s.size a ≤ s.size a)
    (w : s.Idx → Elt F e) (r : Rect s) :
    v.readCov (Val := Elt F) [⟨Rect.unit off s.size inb, w⟩] r.toLoadRect = View.ld w r := by
  show View.ld (v.read (Elt F) (v.writes (Elt F) v.junk [⟨Rect.unit off s.size inb, w⟩])) r = _
  rw [View.read_writes_full]

set_option backward.proofsInPublic true in
set_option maxHeartbeats 16000000 in
/-- The body at a point that copies nothing: the scratch stays, and the output block is `outv` of the row block and the scratch, whatever the number of row steps. -/
theorem run_kept (c : Dev nD) (i : grid0.Coords) (arg5 : Memref sig .tc .vmem S512x7168 .bf16) (harg5 : arg5.IsWhole) (arg6 : Memref sig .tc .vmem S1x1x7168x512 .f32) (harg6 : arg6.IsWhole) (arg7 : Memref sig .tc .vmem S512x512 .f32) (harg7 : arg7.IsWhole) (T0 T1 T2 : S24.Idx → Elt F .i32)
    (x0 : S512x7168.Idx → Elt F .bf16) (x1 : S1x1x7168x512.Idx → Elt F .f32) (xa y : S7168x512.Idx → Elt F .bf16)
    (hf : ¬Copy i (wf i T1)) (hy : y = xa) (k : Fin 5) (hk : Steps i (wr i T2) k) (K : PUnit → sProp 𝕄) :
    iprop((arg5.view.loc (c : Thread nD τ) ↦[arg5.view.set]{fullShare} arg5.view.rep x0) ∗ (arg6.view.loc (c : Thread nD τ) ↦[arg6.view.set]{fullShare} arg6.view.rep x1) ∗ (tb0.view.loc (c : Thread nD τ) ↦{fullShare.right} T0) ∗ (tb1.view.loc (c : Thread nD τ) ↦{fullShare.right} T1) ∗ (tb2.view.loc (c : Thread nD τ) ↦{fullShare.right} T2) ∗ (∃ d, owns (c : Thread nD τ) arg7 fullShare d) ∗ (sc0.view.loc (c : Thread nD τ) ↦{fullShare} xa) ∗ (iprop((arg5.view.loc (c : Thread nD τ) ↦[arg5.view.set]{fullShare} arg5.view.rep x0) ∗ (arg6.view.loc (c : Thread nD τ) ↦[arg6.view.set]{fullShare} arg6.view.rep x1) ∗ (tb0.view.loc (c : Thread nD τ) ↦{fullShare.right} T0) ∗ (tb1.view.loc (c : Thread nD τ) ↦{fullShare.right} T1) ∗ (tb2.view.loc (c : Thread nD τ) ↦{fullShare.right} T2) ∗ owns (c : Thread nD τ) arg7 fullShare (outv k x0 y) ∗ (∃ a, ⌜sc0.view.read (Elt F) a = y⌝ ∗ (sc0.view.loc (c : Thread nD τ) ↦{fullShare} a))) -∗ K ⟨⟩))
      ⊢ wp frame (wpE (defs₀ (F := F)) Variants.none c none) Set.univ (cc0_moe_down i tb0 (Memref.isWhole_whole _) tb1 (Memref.isWhole_whole _) tb2 (Memref.isWhole_whole _) arg5 harg5 arg6 harg6 arg7 harg7 sc0 (Memref.isWhole_whole _)) K := by
  have hS0 : sc0.IsWhole := Memref.isWhole_whole _
  have hT0 : tb0.IsWhole := Memref.isWhole_whole _
  have hT1 : tb1.IsWhole := Memref.isWhole_whole _
  have hT2 : tb2.IsWhole := Memref.isWhole_whole _
  subst hy
  have hcov := pieces_cover k x0 y
  obtain ⟨h2, h3, h4, h5, h6⟩ := hk
  have hk5 : k = 0 ∨ k = 1 ∨ k = 2 ∨ k = 3 ∨ k = 4 := by clear hcov h2 h3 h4 h5 h6; revert k; decide
  rcases hk5 with rfl | rfl | rfl | rfl | rfl <;>
  · simp only [Fin.isValue, Fin.reduceEq, iff_true, iff_false] at h2 h3 h4 h5 h6
    rw [cc0_moe_down_eq_skeleton]; unfold cc0_moe_down_skel
    unfold owns
    iintro ⟨H0, H1, HT0, HT1, HT2, ⟨%d3, %f3, -, HO⟩, HS0, Hk⟩
    sl_exec! (disch := first | (guard_target = ¬(Scalar.cmpi .ne _ _ = _); exact hf) | (guard_target = k0_cond2 _ _ = _; exact h2) | (guard_target = ¬(k0_cond2 _ _ = _); exact h2) | (guard_target = k0_cond3 _ _ = _; exact h3) | (guard_target = ¬(k0_cond3 _ _ = _); exact h3) | (guard_target = k0_cond4 _ _ = _; exact h4) | (guard_target = ¬(k0_cond4 _ _ = _); exact h4) | (guard_target = k0_cond5 _ _ = _; exact h5) | (guard_target = ¬(k0_cond5 _ _ = _); exact h5) | (guard_target = k0_cond6 _ _ = _; exact h6) | (guard_target = ¬(k0_cond6 _ _ = _); exact h6))
    sl_step
    have g0 : ∀ r : Rect S512x7168, arg5.view.readAt (Elt F) r.toLoadRect (arg5.view.rep x0) = View.ld x0 r := fun r => by rw [View.readAt_eq_ld, View.read_rep]
    iapply Hk
    isplitl [H0]; · iexact H0
    isplitl [H1]; · iexact H1
    isplitl [HT0]; · iexact HT0
    isplitl [HT1]; · iexact HT1
    isplitl [HT2]; · iexact HT2
    isplitl [HO]
    · iexists _; isplitr; swap
      · iexact HO
      · ipureintro
        refine Eq.trans ?_ (View.read_writes_of_cover arg7.view arg7.view.junk VO VO.junk _ hcov)
        refine congrArg (fun L => arg7.view.read (Elt F) (arg7.view.writes (Elt F) arg7.view.junk L)) ?_
        simp only [pieces, ← g0]
        rfl
    iexists _; isplitr; swap
    · iexact HS0
    · ipureintro; rfl

set_option backward.proofsInPublic true in
set_option maxHeartbeats 16000000 in
/-- The body at a point that copies: the scratch takes the cast weight block, and the output block is `outv` of the row block and that block, whatever the number of row steps. -/
theorem run_copied (c : Dev nD) (i : grid0.Coords) (arg5 : Memref sig .tc .vmem S512x7168 .bf16) (harg5 : arg5.IsWhole) (arg6 : Memref sig .tc .vmem S1x1x7168x512 .f32) (harg6 : arg6.IsWhole) (arg7 : Memref sig .tc .vmem S512x512 .f32) (harg7 : arg7.IsWhole) (T0 T1 T2 : S24.Idx → Elt F .i32)
    (x0 : S512x7168.Idx → Elt F .bf16) (x1 : S1x1x7168x512.Idx → Elt F .f32) (xa y : S7168x512.Idx → Elt F .bf16)
    (hf : Copy i (wf i T1)) (hy : y = k0_pay1 x1) (k : Fin 5) (hk : Steps i (wr i T2) k) (K : PUnit → sProp 𝕄) :
    iprop((arg5.view.loc (c : Thread nD τ) ↦[arg5.view.set]{fullShare} arg5.view.rep x0) ∗ (arg6.view.loc (c : Thread nD τ) ↦[arg6.view.set]{fullShare} arg6.view.rep x1) ∗ (tb0.view.loc (c : Thread nD τ) ↦{fullShare.right} T0) ∗ (tb1.view.loc (c : Thread nD τ) ↦{fullShare.right} T1) ∗ (tb2.view.loc (c : Thread nD τ) ↦{fullShare.right} T2) ∗ (∃ d, owns (c : Thread nD τ) arg7 fullShare d) ∗ (sc0.view.loc (c : Thread nD τ) ↦{fullShare} xa) ∗ (iprop((arg5.view.loc (c : Thread nD τ) ↦[arg5.view.set]{fullShare} arg5.view.rep x0) ∗ (arg6.view.loc (c : Thread nD τ) ↦[arg6.view.set]{fullShare} arg6.view.rep x1) ∗ (tb0.view.loc (c : Thread nD τ) ↦{fullShare.right} T0) ∗ (tb1.view.loc (c : Thread nD τ) ↦{fullShare.right} T1) ∗ (tb2.view.loc (c : Thread nD τ) ↦{fullShare.right} T2) ∗ owns (c : Thread nD τ) arg7 fullShare (outv k x0 y) ∗ (∃ a, ⌜sc0.view.read (Elt F) a = y⌝ ∗ (sc0.view.loc (c : Thread nD τ) ↦{fullShare} a))) -∗ K ⟨⟩))
      ⊢ wp frame (wpE (defs₀ (F := F)) Variants.none c none) Set.univ (cc0_moe_down i tb0 (Memref.isWhole_whole _) tb1 (Memref.isWhole_whole _) tb2 (Memref.isWhole_whole _) arg5 harg5 arg6 harg6 arg7 harg7 sc0 (Memref.isWhole_whole _)) K := by
  have hS0 : sc0.IsWhole := Memref.isWhole_whole _
  have hT0 : tb0.IsWhole := Memref.isWhole_whole _
  have hT1 : tb1.IsWhole := Memref.isWhole_whole _
  have hT2 : tb2.IsWhole := Memref.isWhole_whole _
  have hcov := pieces_cover k x0 y
  obtain ⟨h2, h3, h4, h5, h6⟩ := hk
  have hk5 : k = 0 ∨ k = 1 ∨ k = 2 ∨ k = 3 ∨ k = 4 := by clear hcov h2 h3 h4 h5 h6; revert k; decide
  rcases hk5 with rfl | rfl | rfl | rfl | rfl <;>
  · simp only [Fin.isValue, Fin.reduceEq, iff_true, iff_false] at h2 h3 h4 h5 h6
    rw [cc0_moe_down_eq_skeleton]; unfold cc0_moe_down_skel
    unfold owns
    iintro ⟨H0, H1, HT0, HT1, HT2, ⟨%d3, %f3, -, HO⟩, HS0, Hk⟩
    sl_exec! (disch := first | (guard_target = (Scalar.cmpi .ne _ _ = _); exact hf) | (guard_target = k0_cond2 _ _ = _; exact h2) | (guard_target = ¬(k0_cond2 _ _ = _); exact h2) | (guard_target = k0_cond3 _ _ = _; exact h3) | (guard_target = ¬(k0_cond3 _ _ = _); exact h3) | (guard_target = k0_cond4 _ _ = _; exact h4) | (guard_target = ¬(k0_cond4 _ _ = _); exact h4) | (guard_target = k0_cond5 _ _ = _; exact h5) | (guard_target = ¬(k0_cond5 _ _ = _); exact h5) | (guard_target = k0_cond6 _ _ = _; exact h6) | (guard_target = ¬(k0_cond6 _ _ = _); exact h6))
    sl_step
    have g0 : ∀ r : Rect S512x7168, arg5.view.readAt (Elt F) r.toLoadRect (arg5.view.rep x0) = View.ld x0 r := fun r => by rw [View.readAt_eq_ld, View.read_rep]
    have hx1 : arg6.view.readAt (Elt F) (Rect.unit (s := S1x1x7168x512) ![0, 0, 0, 0] S1x1x7168x512.size inb_S1x1x7168x512_S1x1x7168x512_0_0_0_0).toLoadRect (arg6.view.rep x1) = x1 := View.readAt_rep_full _ _ _
    replace hy := hy.trans (congrArg k0_pay1 hx1.symm)
    have gy : ∀ r : Rect S7168x512, View.ld y r = _ := fun r => (congrArg (fun y => View.ld y r) hy).trans (readCov_whole sc0.view inb_S7168x512_S7168x512_0_0 _ r).symm
    have e0 : sc0.view.read (Elt F) (sc0.view.writes (Elt F) sc0.view.junk [⟨Rect.unit (s := S7168x512) ![0, 0] S7168x512.size inb_S7168x512_S7168x512_0_0, _⟩]) = y := (View.read_writes_full sc0.view _ inb_S7168x512_S7168x512_0_0 _ []).trans hy.symm
    iapply Hk
    isplitl [H0]; · iexact H0
    isplitl [H1]; · iexact H1
    isplitl [HT0]; · iexact HT0
    isplitl [HT1]; · iexact HT1
    isplitl [HT2]; · iexact HT2
    isplitl [HO]
    · iexists _; isplitr; swap
      · iexact HO
      · ipureintro
        refine Eq.trans ?_ (View.read_writes_of_cover arg7.view arg7.view.junk VO VO.junk _ hcov)
        refine congrArg (fun L => arg7.view.read (Elt F) (arg7.view.writes (Elt F) arg7.view.junk L)) ?_
        simp only [pieces, ← g0, gy]
        rfl
    iexists _; isplitr; swap
    · iexact HS0
    · ipureintro; exact e0

end Cert.Kernel3Ideal.Down

end
-- ==== Proof.DTab.lean ====
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.DRun
public import proofs.«01_k».proof.Proof.MPre
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel3Ideal.Down

open Cert.Kernel3Ideal Cert.Kernel3Ideal.Gen
open Cert.Kernel2Ideal.Moe (Good marked)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tile of a point: half its second coordinate. -/
def til (i : grid0.Coords) : Fin 24 := ⟨(i 1).val / 2, by have : (i 1).val < 48 := (i 1).isLt; omega⟩

/-- The offset at which a point reads its mark: its tile. -/
theorem off1 : ∀ i : grid0.Coords, k0_off1 i 0 = (i 1).val / 2 := by decide +kernel
/-- The offset at which a point reads its row count: its tile. -/
theorem off2 : ∀ i : grid0.Coords, k0_off2 i 0 = (i 1).val / 2 := by decide +kernel

/-- The word of the marks that a point reads. -/
theorem wf_eq (i : grid0.Coords) (T1 : S24.Idx → Elt F .i32) : wf i T1 = T1 (ix1 (til i)) :=
  congrArg T1 (funext fun a => Fin.ext (by
    obtain rfl : a = (0 : Fin 1) := Subsingleton.elim (α := Fin 1) _ _
    show k0_off1 i 0 + 1 * 0 = (i 1).val / 2
    rw [off1]; omega))
/-- The word of the row counts that a point reads. -/
theorem wr_eq (i : grid0.Coords) (T2 : S24.Idx → Elt F .i32) : wr i T2 = T2 (ix1 (til i)) :=
  congrArg T2 (funext fun a => Fin.ext (by
    obtain rfl : a = (0 : Fin 1) := Subsingleton.elim (α := Fin 1) _ _
    show k0_off2 i 0 + 1 * 0 = (i 1).val / 2
    rw [off2]; omega))

/-- A point's half of its tile is its second coordinate's remainder. -/
theorem part_eq : ∀ i : grid0.Coords, part i = BitVec.ofNat 32 ((i 1).val % 2) := by decide +kernel

/-- A point copies its weight block exactly when its tile is marked and it is the tile's first half. -/
theorem copy_iff (i : grid0.Coords) (w : BitVec 32) : Copy i w ↔ marked w ∧ (i 1).val % 2 = 0 := by
  unfold Copy marked
  rw [part_eq]
  generalize Scalar.cmpi .eq w 1#32 = b
  rcases Nat.mod_two_eq_zero_or_one (i 1).val with h | h <;> rw [h] <;> revert b <;> decide

/-- The number of row steps at a point and its tile's row count: the half's own rows, in steps of 128. -/
def kof (i : grid0.Coords) (w : BitVec 32) : Fin 5 := Fin.ofNat 5 ((min 512 (w.toNat - 512 * ((i 1).val % 2)) + 127) / 128)

/-- One point of each half. -/
def pt (p : Fin 2) : grid0.Coords := fun | ⟨0, _⟩ => (⟨0, by decide⟩ : Fin 4) | ⟨1, _⟩ => (⟨p.val, by omega⟩ : Fin 48) | ⟨_ + 2, h⟩ => absurd h (Nat.not_lt.2 (Nat.le_add_left _ _))

/-- Every count up to a whole tile has its step, in either half. -/
theorem steps_ofNat : ∀ (p : Fin 2) (n : Fin 1025), Steps (pt p) (BitVec.ofNat 32 n.val) (kof (pt p) (BitVec.ofNat 32 n.val)) := by decide +kernel

/-- The conditions look at a point by its half alone. -/
theorem steps_congr (i i' : grid0.Coords) (h : part i = part i') (w : BitVec 32) (k : Fin 5) (hs : Steps i w k) : Steps i' w k := by
  unfold part at h
  unfold Steps at hs ⊢
  unfold k0_cond2 k0_cond3 k0_cond4 k0_cond5 k0_cond6 at hs ⊢
  dsimp only at hs ⊢
  rw [← h]
  exact hs

/-- At a row count of at most 1024 the body takes `kof` steps. -/
theorem steps_of_le (i : grid0.Coords) (w : BitVec 32) (h : w.toNat ≤ 1024) : Steps i w (kof i w) := by
  have hm : (i 1).val % 2 < 2 := Nat.mod_lt _ (by decide)
  have hs := steps_ofNat ⟨(i 1).val % 2, hm⟩ ⟨w.toNat, by omega⟩
  rw [BitVec.ofNat_toNat, BitVec.setWidth_eq] at hs
  have e : ((pt ⟨(i 1).val % 2, hm⟩) 1).val % 2 = (i 1).val % 2 := Nat.mod_mod _ _
  have hk : kof (pt ⟨(i 1).val % 2, hm⟩) w = kof i w := by unfold kof; rw [e]
  rw [hk] at hs
  exact steps_congr _ _ (by rw [part_eq, part_eq, e]) _ _ hs

/-- The tables' contents. -/
def pfN (T0 T1 T2 : S24.Idx → Elt F .i32) : pre0.Contents (Elt F) := fun | ⟨0, _⟩ => T0 | ⟨1, _⟩ => T1 | ⟨2, _⟩ => T2 | ⟨_ + 3, h⟩ => absurd h (by simp)

/-- The weight window's block at a point: the tile's expert, the point's column block. -/
theorem ix_1 (T0 T1 T2 : S24.Idx → Elt F .i32) (i : grid0.Coords) :
    cc0_transform_1 k0_off1_inb numel1_S1 (pfN T0 T1 T2) i = ![0, BitVec.toNat (w := 32) (T0 (ix1 (til i))), 0, (i 0).val] := by
  have h := wf_eq i T0
  have h0 : ∀ i : grid0.Coords, (BitVec.ofNat 32 (i 0).val).toNat = (i 0).val := by decide +kernel
  show ![0, BitVec.toNat (w := 32) (wf i T0), 0, (BitVec.ofNat 32 (i 0).val).toNat] = _
  rw [h, h0]

/-- The weight window's blocks are inside their array. -/
theorem ok_good (T0 T1 T2 : S24.Idx → Elt F .i32) (hg : Good T0 T1 T2) : ok0 (F := F) (pfN T0 T1 T2) := by
  have key : ∀ i : grid0.Coords, ∀ a, ((![0, BitVec.toNat (w := 32) (T0 (ix1 (til i))), 0, (i 0).val] : Fin 4 → ℕ) a + 1) * S1x1x7168x512.size a ≤ S1x8x7168x2048.size a := by
    intro i a
    have h1 := hg.te (til i)
    have h0 : (i 0).val < 4 := (i 0).isLt
    fin_cases a
    · show (0 + 1) * 1 ≤ 1; omega
    · show (BitVec.toNat (w := 32) (T0 (ix1 (til i))) + 1) * 1 ≤ 8; omega
    · show (0 + 1) * 7168 ≤ 7168; omega
    · show ((i 0).val + 1) * 512 ≤ 2048; omega
  exact fun i => ⟨fun a => by rw [ix_1]; exact key i a, .inl rfl⟩

end Cert.Kernel3Ideal.Down

end
-- ==== Proof.DFrame.lean ====
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.DTab
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel3Ideal.Down

open Cert.Kernel3Ideal Cert.Kernel3Ideal.Gen
open Cert.Kernel2Ideal.Moe (Good marked)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

variable (T0 T1 T2 : S24.Idx → Elt F .i32) (hg : Good T0 T1 T2)

/-- The admissible contents, the pipeline at them, as @main's one. -/
def adm : (pcfg0 (F := F)).Adm := ⟨pfN T0 T1 T2, ok_good T0 T1 T2 hg⟩
abbrev cfgA : Pipeline.Cfg sig Λ₀ := cfg0 (F := F) (adm T0 T1 T2 hg)
abbrev pcs : Fin 1 → Pipeline.Cfg sig Λ₀ := Pipeline.pin (pcfgs (F := F)) fun _ => adm T0 T1 T2 hg

variable (m : (ℓ : Loc nD τ sig) → Buf (Elt F) ℓ) (ρ : Dev nD → PrngReg)

/-- Point `t`'s coordinates. -/
abbrev crd (t : Fin (cfgA T0 T1 T2 hg).N) : grid0.Coords := (cfgA T0 T1 T2 hg).grid.coords t
/-- Point `t`'s tile. -/
abbrev tile (t : Fin (cfgA T0 T1 T2 hg).N) : Fin 24 := til (crd T0 T1 T2 hg t)

/-- A point's two coordinates, from its position. -/
theorem crd_val : ∀ t : Fin grid0.N, (grid0.coords t 0).val = t.val / 48 ∧ (grid0.coords t 1).val = t.val % 48 := by decide +kernel

/-- Each window's current staging memref at point `t`, and its wholeness. -/
abbrev ms0 (t : Fin (cfgA T0 T1 T2 hg).N) : Memref sig .tc .vmem S512x7168 .bf16 := spec0_0.stage ((cfgA T0 T1 T2 hg).slots t (0 : Fin 3))
abbrev hs0 (t : Fin (cfgA T0 T1 T2 hg).N) : (ms0 T0 T1 T2 hg t).IsWhole := hstage0_0 (((cfgA T0 T1 T2 hg).slots t (0 : Fin 3)).cast nbuf0_0)
abbrev ms1 (t : Fin (cfgA T0 T1 T2 hg).N) : Memref sig .tc .vmem S1x1x7168x512 .f32 := spec0_1.stage ((cfgA T0 T1 T2 hg).slots t (1 : Fin 3))
abbrev hs1 (t : Fin (cfgA T0 T1 T2 hg).N) : (ms1 T0 T1 T2 hg t).IsWhole := hstage0_1 (((cfgA T0 T1 T2 hg).slots t (1 : Fin 3)).cast nbuf0_1)
abbrev ms2 (t : Fin (cfgA T0 T1 T2 hg).N) : Memref sig .tc .vmem S512x512 .f32 := spec0_2.stage ((cfgA T0 T1 T2 hg).slots t (2 : Fin 3))
abbrev hs2 (t : Fin (cfgA T0 T1 T2 hg).N) : (ms2 T0 T1 T2 hg t).IsWhole := hstage0_2 (((cfgA T0 T1 T2 hg).slots t (2 : Fin 3)).cast nbuf0_2)

/-- Window `w`'s block at point `t`, read off its array at launch. -/
def iblk (c : Dev nD) (w : Fin (cfgA T0 T1 T2 hg).W) (t : Fin (cfgA T0 T1 T2 hg).N) : (((cfgA T0 T1 T2 hg).win w).xblock (crd T0 T1 T2 hg t)).Idx → Elt F ((cfgA T0 T1 T2 hg).win w).elt :=
  (((cfgA T0 T1 T2 hg).win w).blk t).view.read (Elt F) ((s₀ m ρ).mem (((cfgA T0 T1 T2 hg).win w).arr.view.loc (c : Thread nD τ)))

/-- The weight window's block depends on the point by its expert and its column block alone. -/
theorem iblk_congr (c : Dev nD) (t t' : Fin (cfgA T0 T1 T2 hg).N) (h : ((cfgA T0 T1 T2 hg).win (1 : Fin 3)).index t = ((cfgA T0 T1 T2 hg).win (1 : Fin 3)).index t') :
    (iblk T0 T1 T2 hg m ρ c (1 : Fin 3) t : S1x1x7168x512.Idx → Elt F .f32) = iblk T0 T1 T2 hg m ρ c (1 : Fin 3) t' := by
  funext y
  show m ((c : Thread nD τ).loc main_arg1) _ = m ((c : Thread nD τ).loc main_arg1) _
  refine congrArg _ (funext fun a => Fin.ext ?_)
  show ((cfgA T0 T1 T2 hg).win (1 : Fin 3)).index t a * _ + 1 * (y a).val = ((cfgA T0 T1 T2 hg).win (1 : Fin 3)).index t' a * _ + 1 * (y a).val
  rw [h]

/-- The scratch after point `t`: its cast weight block. -/
def yv (c : Dev nD) (t : Fin (cfgA T0 T1 T2 hg).N) : S7168x512.Idx → Elt F .bf16 := k0_pay1 (iblk T0 T1 T2 hg m ρ c (1 : Fin 3) t)

/-- The output block after point `t`. -/
def after2 (c : Dev nD) (t : Fin (cfgA T0 T1 T2 hg).N) : S512x512.Idx → Elt F .f32 :=
  outv (kof (crd T0 T1 T2 hg t) (T2 (ix1 (tile T0 T1 T2 hg t)))) (iblk T0 T1 T2 hg m ρ c (0 : Fin 3) t) (yv T0 T1 T2 hg m ρ c t)

/-- At a point that copies nothing the weight block is that of the point before: in a tile's second half it is the
    first half's, and a tile that is not marked keeps the expert of the tile before. -/
theorem same_index (t : Fin (cfgA T0 T1 T2 hg).N) (hu : ¬Copy (crd T0 T1 T2 hg t) (T1 (ix1 (tile T0 T1 T2 hg t)))) :
    ∃ h : t.val ≠ 0, ((cfgA T0 T1 T2 hg).win (1 : Fin 3)).index t = ((cfgA T0 T1 T2 hg).win (1 : Fin 3)).index ⟨t.val - 1, Nat.lt_of_le_of_lt (Nat.sub_le _ _) t.isLt⟩ := by
  rw [copy_iff] at hu
  obtain ⟨ca, cb⟩ := crd_val t
  have hN : t.val < grid0.N := t.isLt
  have hlt : t.val - 1 < grid0.N := by omega
  obtain ⟨ca', cb'⟩ := crd_val ⟨t.val - 1, hlt⟩
  have hh : (grid0.coords t 1).val % 2 = 0 → 0 < (grid0.coords t 1).val / 2 ∧ T0 (ix1 (til (grid0.coords t))) = T0 (ix1 ⟨(til (grid0.coords t)).val - 1, by omega⟩) := fun h2 => by
    obtain ⟨h0, hT⟩ := hg.tf (til (grid0.coords t)) (fun hm => hu ⟨hm, h2⟩)
    exact ⟨h0, hT⟩
  have hne : (grid0.coords t 1).val ≠ 0 := fun h => by
    have := (hh (by rw [h])).1
    rw [h] at this; omega
  have e0 : grid0.coords t 0 = grid0.coords ⟨t.val - 1, hlt⟩ 0 := Fin.ext (by rw [ca, ca']; show t.val / 48 = (t.val - 1) / 48; omega)
  have e1 : T0 (ix1 (til (grid0.coords t))) = T0 (ix1 (til (grid0.coords ⟨t.val - 1, hlt⟩))) := by
    rcases Nat.mod_two_eq_zero_or_one (grid0.coords t 1).val with h2 | h2
    · refine (hh h2).2.trans (congrArg (fun j : Fin 24 => T0 (ix1 j)) (Fin.ext ?_))
      show (grid0.coords t 1).val / 2 - 1 = (grid0.coords ⟨t.val - 1, hlt⟩ 1).val / 2
      rw [cb']; show _ = (t.val - 1) % 48 / 2; omega
    · refine congrArg (fun j : Fin 24 => T0 (ix1 j)) (Fin.ext ?_)
      show (grid0.coords t 1).val / 2 = (grid0.coords ⟨t.val - 1, hlt⟩ 1).val / 2
      rw [cb']; show _ = (t.val - 1) % 48 / 2; omega
  have key : (![0, BitVec.toNat (w := 32) (T0 (ix1 (til (grid0.coords t)))), 0, (grid0.coords t 0).val] : Fin 4 → ℕ)
      = ![0, BitVec.toNat (w := 32) (T0 (ix1 (til (grid0.coords ⟨t.val - 1, hlt⟩)))), 0, (grid0.coords ⟨t.val - 1, hlt⟩ 0).val] := by
    rw [← e0]; exact congrArg (fun v : BitVec 32 => (![0, v.toNat, 0, (grid0.coords t 0).val] : Fin 4 → ℕ)) e1
  exact ⟨fun h => hne (by rw [cb, h]), ((ix_1 T0 T1 T2 _).trans key).trans (ix_1 T0 T1 T2 _).symm⟩

/-- The output window is written back at every point, -/
theorem flush2 (t : Fin (cfgA T0 T1 T2 hg).N) : ((cfgA T0 T1 T2 hg).win (2 : Fin 3)).flush t = true := by
  have h : ∀ t : Fin grid0.N, (t.val + 1 = grid0.N || decide (∃ h : t.val + 1 < grid0.N, cc0_transform_2 (grid0.coords ⟨t.val + 1, h⟩) ≠ cc0_transform_2 (grid0.coords t))) = true := by decide +kernel
  exact h t

/-- is never left idle, -/
theorem idle2 (t : Fin (cfgA T0 T1 T2 hg).N) : (cfgA T0 T1 T2 hg).idle (2 : Fin 3) ((cfgA T0 T1 T2 hg).grid.coords t) = false := by
  have hs := steps_of_le (crd T0 T1 T2 hg t) _ (hg.tr (tile T0 T1 T2 hg t))
  have hw : (pfN T0 T1 T2).atD 2 (k0_off2 (crd T0 T1 T2 hg t)) = T2 (ix1 (tile T0 T1 T2 hg t)) := by
    have hb : ∀ a, k0_off2 (crd T0 T1 T2 hg t) a + 1 ≤ S24.size a := fun a => by
      obtain rfl : a = (0 : Fin 1) := Subsingleton.elim (α := Fin 1) _ _
      rw [off2]; exact (tile T0 T1 T2 hg t).isLt
    refine (dif_pos hb).trans (congrArg T2 (funext fun a => Fin.ext ?_))
    obtain rfl : a = (0 : Fin 1) := Subsingleton.elim (α := Fin 1) _ _
    exact off2 _
  show idle0 (pfN T0 T1 T2) 2 (crd T0 T1 T2 hg t) = false
  show (!(k0_cond2 _ ((pfN T0 T1 T2).atD 2 (k0_off2 (crd T0 T1 T2 hg t))) == 1#1) && !(k0_cond3 _ _ == 1#1) && !(k0_cond4 _ _ == 1#1) && !(k0_cond5 _ _ == 1#1) && !(k0_cond6 _ _ == 1#1)) = false
  rw [hw]
  generalize T2 (ix1 (tile T0 T1 T2 hg t)) = w at hs ⊢
  obtain ⟨h2, h3, h4, h5, h6⟩ := hs
  generalize kof (crd T0 T1 T2 hg t) w = k at h2 h3 h4 h5 h6
  have hk5 : k = 0 ∨ k = 1 ∨ k = 2 ∨ k = 3 ∨ k = 4 := by clear h2 h3 h4 h5 h6; revert k; decide
  rcases hk5 with h | h | h | h | h
  · rw [h2.2 h]; rfl
  · rw [h3.2 h]; simp
  · rw [h4.2 h]; simp
  · rw [h5.2 h]; simp
  · rw [h6.2 h]; simp

/-- The invariant before point `t`: after the first point the scratch holds the point before's cast weight block; the
    body's halves of the tables. -/
def Phi (c : Dev nD) (t : Fin ((cfgA T0 T1 T2 hg).N + 1)) : sProp 𝕄 :=
  iprop((∃ a, ⌜∀ h : t.val ≠ 0, sc0.view.read (Elt F) a = yv T0 T1 T2 hg m ρ c ⟨t.val - 1, by omega⟩⌝ ∗ (sc0.view.loc (c : Thread nD τ) ↦{fullShare} a))
    ∗ (tb0.view.loc (c : Thread nD τ) ↦{fullShare.right} T0) ∗ (tb1.view.loc (c : Thread nD τ) ↦{fullShare.right} T1) ∗ (tb2.view.loc (c : Thread nD τ) ↦{fullShare.right} T2))

/-- The proof data of the one pipeline on core `c`. -/
def dats (_ : Fin 1) (c : Dev nD) : Dat τ (Elt F) Unit ℕ (UR sig nD τ) ℕ (cfgA T0 T1 T2 hg) c where
  A w := (s₀ m ρ).mem (((cfgA T0 T1 T2 hg).win w).arr.view.loc (c : Thread nD τ))
  after w t := match w with
    | ⟨0, _⟩ => iblk T0 T1 T2 hg m ρ c (0 : Fin 3) t
    | ⟨1, _⟩ => iblk T0 T1 T2 hg m ρ c (1 : Fin 3) t
    | ⟨2, _⟩ => after2 T0 T1 T2 hg m ρ c t
  Φ t := Phi T0 T1 T2 hg m ρ c t
  q _ := fullShare
  owed _ := 0

/-- What an input window's block is after a point: what it was read as. -/
theorem after0_0 (c : Dev nD) (t : Fin (cfgA T0 T1 T2 hg).N) : (dats T0 T1 T2 hg m ρ 0 c).after (0 : Fin 3) t = iblk T0 T1 T2 hg m ρ c (0 : Fin 3) t := rfl
/-- The same of the weight window. -/
theorem after0_1 (c : Dev nD) (t : Fin (cfgA T0 T1 T2 hg).N) : (dats T0 T1 T2 hg m ρ 0 c).after (1 : Fin 3) t = iblk T0 T1 T2 hg m ρ c (1 : Fin 3) t := rfl
/-- The output window's block after a point. -/
theorem after0_2 (c : Dev nD) (t : Fin (cfgA T0 T1 T2 hg).N) : (dats T0 T1 T2 hg m ρ 0 c).after (2 : Fin 3) t = after2 T0 T1 T2 hg m ρ c t := rfl

/-- Each input window holds its block, fetched there or not. -/
theorem before0_0 (c : Dev nD) (t : Fin (cfgA T0 T1 T2 hg).N) (d) : (dats T0 T1 T2 hg m ρ 0 c).before (0 : Fin 3) t d = iblk T0 T1 T2 hg m ρ c (0 : Fin 3) t :=
  ((dats T0 T1 T2 hg m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)
/-- The weight window's block before a point. -/
theorem before0_1 (c : Dev nD) (t : Fin (cfgA T0 T1 T2 hg).N) (d) : (dats T0 T1 T2 hg m ρ 0 c).before (1 : Fin 3) t d = iblk T0 T1 T2 hg m ρ c (1 : Fin 3) t :=
  ((dats T0 T1 T2 hg m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- The body at point `t` on its staging memrefs, as the pipeline calls it. -/
abbrev bodyAt0 (t : Fin (cfgA T0 T1 T2 hg).N) : Prog (TpuEff nD τ sig (Elt F) Λ₀ .tc) PUnit :=
  cc0_moe_down (crd T0 T1 T2 hg t) tb0 (Memref.isWhole_whole _) tb1 (Memref.isWhole_whole _) tb2 (Memref.isWhole_whole _) (ms0 T0 T1 T2 hg t) (hs0 T0 T1 T2 hg t) (ms1 T0 T1 T2 hg t) (hs1 T0 T1 T2 hg t) (ms2 T0 T1 T2 hg t) (hs2 T0 T1 T2 hg t) sc0 (Memref.isWhole_whole _)

set_option maxHeartbeats 4000000 in
/-- The body obligation at point `t`: the inputs hold their blocks, the scratch the cast weight block of the point
    before; at a point that copies the scratch is stored, at another it stays, and the weight block with it. -/
theorem sound_body (c : Dev nD) (t : Fin (cfgA T0 T1 T2 hg).N) :
    iprop((dats T0 T1 T2 hg m ρ 0 c).Φ t.castSucc ∗ (dats T0 T1 T2 hg m ρ 0 c).owesAt () t.castSucc
        ∗ (∃ d, owns (c : Thread nD τ) (ms0 T0 T1 T2 hg t) fullShare ((dats T0 T1 T2 hg m ρ 0 c).before (0 : Fin 3) t d))
        ∗ (∃ d, owns (c : Thread nD τ) (ms1 T0 T1 T2 hg t) fullShare ((dats T0 T1 T2 hg m ρ 0 c).before (1 : Fin 3) t d))
        ∗ (∃ d, owns (c : Thread nD τ) (ms2 T0 T1 T2 hg t) fullShare ((dats T0 T1 T2 hg m ρ 0 c).before (2 : Fin 3) t d)))
      ⊢ wp frame (wpE (defs₀ (F := F)) Variants.none c none) Set.univ (bodyAt0 T0 T1 T2 hg t) fun _ =>
          iprop((dats T0 T1 T2 hg m ρ 0 c).Φ t.succ ∗ (dats T0 T1 T2 hg m ρ 0 c).owesAt () t.succ
            ∗ bigSep Finset.univ fun w : Fin (cfgA T0 T1 T2 hg).W =>
                match (cfgA T0 T1 T2 hg).idle w ((cfgA T0 T1 T2 hg).grid.coords t) with
                | true =>
                  match ((cfgA T0 T1 T2 hg).win w).flush t with
                  | false => iprop(∃ d, owns (c : Thread nD τ) (((cfgA T0 T1 T2 hg).win w).stage ((cfgA T0 T1 T2 hg).slots t w)) fullShare ((dats T0 T1 T2 hg m ρ 0 c).before w t d))
                  | true => owns (c : Thread nD τ) (((cfgA T0 T1 T2 hg).win w).stage ((cfgA T0 T1 T2 hg).slots t w)) fullShare ((dats T0 T1 T2 hg m ρ 0 c).after w t)
                | false => owns (c : Thread nD τ) (((cfgA T0 T1 T2 hg).win w).stage ((cfgA T0 T1 T2 hg).slots t w)) fullShare ((dats T0 T1 T2 hg m ρ 0 c).after w t)) := by
  rw [bigSep_W0]
  rewrite [idle2 T0 T1 T2 hg t]
  simp only [before0_0, before0_1, after0_0, after0_1, after0_2]
  rewrite [show (dats T0 T1 T2 hg m ρ 0 c).Φ t.succ = Phi T0 T1 T2 hg m ρ c t.succ from rfl, show (dats T0 T1 T2 hg m ρ 0 c).Φ t.castSucc = Phi T0 T1 T2 hg m ρ c t.castSucc from rfl,
    show (dats T0 T1 T2 hg m ρ 0 c).owesAt () t.succ = (dats T0 T1 T2 hg m ρ 0 c).owesAt () t.castSucc from rfl]
  unfold Phi; simp only [Fin.val_castSucc, Fin.val_succ]
  have hsteps : Steps (crd T0 T1 T2 hg t) (wr (crd T0 T1 T2 hg t) T2) (kof (crd T0 T1 T2 hg t) (T2 (ix1 (tile T0 T1 T2 hg t)))) := by
    rw [wr_eq]; exact steps_of_le _ _ (hg.tr _)
  iintro ⟨⟨⟨%a0, %ha0, HS0⟩, HT0, HT1, HT2⟩, Ho, ⟨%d0, H0⟩, ⟨%d1, H1⟩, ⟨%d2, H2⟩⟩
  by_cases hm : Copy (crd T0 T1 T2 hg t) (wf (crd T0 T1 T2 hg t) T1)
  · iapply (run_copied c (crd T0 T1 T2 hg t) (ms0 T0 T1 T2 hg t) (hs0 T0 T1 T2 hg t) (ms1 T0 T1 T2 hg t) (hs1 T0 T1 T2 hg t) (ms2 T0 T1 T2 hg t) (hs2 T0 T1 T2 hg t) T0 T1 T2 (iblk T0 T1 T2 hg m ρ c (0 : Fin 3) t) (iblk T0 T1 T2 hg m ρ c (1 : Fin 3) t) a0 (yv T0 T1 T2 hg m ρ c t) hm rfl _ hsteps _)
    isplitl [H0]; · iapply rep_of_owns; iexact H0
    isplitl [H1]; · iapply rep_of_owns; iexact H1
    isplitl [HT0]; · iexact HT0
    isplitl [HT1]; · iexact HT1
    isplitl [HT2]; · iexact HT2
    isplitl [H2]; · iexists _; iexact H2
    isplitl [HS0]; · iexact HS0
    iintro ⟨H0, H1, HT0, HT1, HT2, H2, ⟨%b0, %hb0, HS0⟩⟩
    isplitl [HS0 HT0 HT1 HT2]
    · isplitl [HS0]
      · iexists b0; isplitr; swap
        · iexact HS0
        · ipureintro; intro _; exact hb0
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    iexact H2
  · obtain ⟨hne, e1⟩ := same_index T0 T1 T2 hg t (fun h => hm (by rw [wf_eq]; exact h))
    have q0 : yv T0 T1 T2 hg m ρ c t = a0 := (congrArg k0_pay1 (iblk_congr T0 T1 T2 hg m ρ c t _ e1)).trans (ha0 hne).symm
    iapply (run_kept c (crd T0 T1 T2 hg t) (ms0 T0 T1 T2 hg t) (hs0 T0 T1 T2 hg t) (ms1 T0 T1 T2 hg t) (hs1 T0 T1 T2 hg t) (ms2 T0 T1 T2 hg t) (hs2 T0 T1 T2 hg t) T0 T1 T2 (iblk T0 T1 T2 hg m ρ c (0 : Fin 3) t) (iblk T0 T1 T2 hg m ρ c (1 : Fin 3) t) a0 (yv T0 T1 T2 hg m ρ c t) hm q0 _ hsteps _)
    isplitl [H0]; · iapply rep_of_owns; iexact H0
    isplitl [H1]; · iapply rep_of_owns; iexact H1
    isplitl [HT0]; · iexact HT0
    isplitl [HT1]; · iexact HT1
    isplitl [HT2]; · iexact HT2
    isplitl [H2]; · iexists _; iexact H2
    isplitl [HS0]; · iexact HS0
    iintro ⟨H0, H1, HT0, HT1, HT2, H2, ⟨%b0, %hb0, HS0⟩⟩
    isplitl [HS0 HT0 HT1 HT2]
    · isplitl [HS0]
      · iexists b0; isplitr; swap
        · iexact HS0
        · ipureintro; intro _; exact hb0
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    iexact H2

/-- The library's body obligation, at every point. -/
theorem body_obligation (c : Dev nD) : BodyObligation (dats T0 T1 T2 hg m ρ 0 c) (defs₀ (F := F)) Variants.none () Set.univ := fun t => by
  rw [bigSep_W0]
  exact sound_body T0 T1 T2 hg m ρ c t

/-- The rounds library's launch element. -/
def u₀ : UR sig nD τ :=
  initOf (Pipeline.cells (pcs T0 T1 T2 hg) ((launch0 (F := F)).cellOf_inj fun _ => adm T0 T1 T2 hg))
    (Pipeline.launchToks (pcs T0 T1 T2 hg) ((launch0 (F := F)).cellOf_inj fun _ => adm T0 T1 T2 hg))

/-- The arrays' shares are whole. -/
theorem share_eq (c : Dev nD) (w : Fin (cfgA T0 T1 T2 hg).W) : (dats T0 T1 T2 hg m ρ 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1) ∗ (((c : Thread nD τ).loc main_arg4) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffer; -/
theorem phi0_intro (c : Dev nD) :
    iprop(BI.emp ∗ Pipeline.prefHeld pre0 c (fun _ => fullShare.right) (adm T0 T1 T2 hg).1 ∗ Pipeline.scopedRest spec0 c) ⊢ (dats T0 T1 T2 hg m ρ 0 c).Φ 0 := by
  rw [prefHeld_eq, scopedRest0_eq, show (dats T0 T1 T2 hg m ρ 0 c).Φ 0 = Phi T0 T1 T2 hg m ρ c 0 from rfl]
  unfold Phi
  iintro ⟨-, ⟨HT0, HT1, HT2⟩, ⟨%a0, HS0⟩⟩
  isplitl [HS0]
  · iexists a0; isplitr; swap
    · iexact HS0
    · ipureintro; intro h; exact absurd rfl h
  isplitl [HT0]
  · iexact HT0
  isplitl [HT1]
  · iexact HT1
  iexact HT2

/-- at the last point it gives the scratch buffer back, the tables let go. -/
theorem phiN_exit (c : Dev nD) : (dats T0 T1 T2 hg m ρ 0 c).Φ (Fin.last (cfgA T0 T1 T2 hg).N) ⊢ iprop(BI.emp ∗ Pipeline.scopedRest spec0 c) := by
  rw [scopedRest0_eq, show (dats T0 T1 T2 hg m ρ 0 c).Φ (Fin.last (cfgA T0 T1 T2 hg).N) = Phi T0 T1 T2 hg m ρ c (Fin.last _) from rfl]
  unfold Phi
  iintro ⟨⟨%a0, -, HS0⟩, -, -, -⟩
  isplitr; · iempintro
  iexists a0; iexact HS0

/-- What the launch memory holds of the tables. -/
def Pinned : Prop :=
  (∀ c : Dev nD, m ((c : Thread nD τ).loc main_arg2) = T0) ∧ (∀ c : Dev nD, m ((c : Thread nD τ).loc main_arg3) = T1)
  ∧ (∀ c : Dev nD, m ((c : Thread nD τ).loc main_arg4) = T2)

/-- The physical post: every array at what the library computes, every table at what the pipeline ran at. -/
def QC : PUnit × MemSt nD τ sig (Elt F) → Prop := fun r =>
  ∀ c : Dev nD, (∀ w : Fin (cfgA T0 T1 T2 hg).W, r.2.mem (((cfgA T0 T1 T2 hg).win w).arr.view.loc (c : Thread nD τ)) = (dats T0 T1 T2 hg m ρ 0 c).arrAt w (cfgA T0 T1 T2 hg).N)
    ∧ ∀ j, r.2.mem ((c : Thread nD τ).loc (pre0.ref j)) = (adm T0 T1 T2 hg).1 j

/-- The tables in memory are the ones the run is stated at. -/
theorem V_pre (hp : Pinned T0 T1 T2 m) (c : Dev nD) (j : Fin 3) : m ((c : Thread nD τ).loc (pre0.ref j)) = (adm T0 T1 T2 hg).1 j := by
  fin_cases j
  · exact hp.1 c
  · exact hp.2.1 c
  · exact hp.2.2 c

set_option backward.isDefEq.respectTransparency.types false in
set_option maxHeartbeats 4000000 in
/-- From any memory with zero counters whose tables are good: every weakly fair execution of @main on the TensorCores
    terminates, every final state has each array at the computed contents, and every semaphore counter at zero. -/
theorem run_main_quiescent (hp : Pinned T0 T1 T2 m) : θ_run (defs (F := F)) (onTc (τ := τ) (main (F := F))) (s₀ m ρ) (fun r => QC T0 T1 T2 hg m ρ r ∧ r.2.sem = fun _ => 0) :=
  Pipeline.θ_run_region_noSem_pf_quiescent pcfgs (fun _ => adm T0 T1 T2 hg) (dats T0 T1 T2 hg m ρ) () ((launch0 (F := F)).cellOf_inj fun _ => adm T0 T1 T2 hg) (0 : Fin 1)
    (launch0 (F := F)).win.to₀ (launch0 (F := F)).pre EP defs₀ Variants.none m ρ main
    (hbody := fun c => (body_obligation T0 T1 T2 hg m ρ c).loose) (hne := (launch0 (F := F)).block_pos)
    (harr := (launch0 (F := F)).arr_whole) (hstage := (launch0 (F := F)).stage_whole) (howed := fun _ _ => rfl)
    (u₀ := u₀ T0 T1 T2 hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 T2 hg) (dats T0 T1 T2 hg m ρ) 0 (launch0 (F := F)).win.arr_inj c (launch0 (F := F)).arr_whole
      (share_eq T0 T1 T2 hg m ρ c) _ _ fun _ => rfl)
    (hpf := V_pre T0 T1 T2 hg m hp)
    (X := fun _ => iprop(emp)) (Y := fun _ => iprop(emp)) (Z := fun _ => iprop(emp))
    (hX := fun c => by rw [unscopedRestP0_eq]; iintro -; isplitr <;> iempintro)
    (hin := phi0_intro T0 T1 T2 hg m ρ)
    (hout := phiN_exit T0 T1 T2 hg m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run: the output array as computed, the argument arrays unchanged, every semaphore counter at zero. -/
theorem run_values (hp : Pinned T0 T1 T2 m) :
    θ_run (defs (F := F)) (onTc (τ := τ) (main (F := F))) ⟨m, fun _ => 0, ρ⟩ (fun r => (∀ c : Dev nD,
      r.2.mem ((c.tc : Thread nD τ).loc main_v0) = (dats T0 T1 T2 hg m ρ 0 c).arrAt (2 : Fin 3) (cfgA T0 T1 T2 hg).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (2 : Fin 3),
    ((h.1 c).1 (0 : Fin 3)).trans ((dats T0 T1 T2 hg m ρ 0 c).arrAt_in (0 : Fin 3) rfl _), ((h.1 c).1 (1 : Fin 3)).trans ((dats T0 T1 T2 hg m ρ 0 c).arrAt_in (1 : Fin 3) rfl _),
    ((h.1 c).2 0).trans (hp.1 c).symm, ((h.1 c).2 1).trans (hp.2.1 c).symm, ((h.1 c).2 2).trans (hp.2.2 c).symm⟩, h.2⟩) (run_main_quiescent T0 T1 T2 hg m ρ hp)

include hg in
/-- The frame: the argument arrays end unchanged and every semaphore counter at zero. -/
theorem frame (hp : Pinned T0 T1 T2 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_values T0 T1 T2 hg m ρ hp)

end Cert.Kernel3Ideal.Down

end
-- ==== Proof.DVal.lean ====
/- Hand-written: the array the mixture's second half leaves, entry by entry. -/
module

public import proofs.«01_k».proof.Proof.Gen.Pre_tables_down
public import proofs.«01_k».proof.Proof.Gen.On_rows_down
public import proofs.«01_k».proof.Proof.DFrame
public import proofs.«01_k».proof.Proof.MPre
public import Idealize.ShloMosaic.Lib.Pipeline.ValueKit
@[expose] public section
set_option maxRecDepth 16384
noncomputable section
open Idealize.ShloMosaic Idealize.ShloMosaic.TcCoe Idealize.SL.Sem
open scoped BigOperators
namespace Cert.Kernel3Ideal.Down
open Cert.Kernel3Ideal Cert.Kernel3Ideal.Gen
open Cert.Kernel2Ideal.Moe (Good marked good_of ofBool_eq_one)

/-- The precondition, read: it asks of the tables what the first half's asks, and of the floats nothing. -/
theorem good_down {F : FTy → Type} [FloatOps F] (X : S24576x7168.Idx → Elt F .bf16) (W : S1x8x7168x2048.Idx → Elt F .f32) (T0 T1 T2 : S24.Idx → BitVec 32)
    (h : Cert.Pre_tables_down.fn (F := F) X W T0 T1 T2 = fun _ => 1#1) : Good T0 T1 T2 :=
  good_of (F := F) (fun _ => FloatOps.ofBits _ 0) (fun _ => FloatOps.ofBits _ 0) (fun _ => FloatOps.ofBits _ 0) T0 T1 T2 h

set_option maxHeartbeats 8000000 in
/-- The rows of an output block that the steps cover hold the product. -/
theorem outv_at (k : Fin 5) (x0 : S512x7168.Idx → Elt Ideal .bf16) (y : S7168x512.Idx → Elt Ideal .bf16) (r : Fin 512) (j : Fin 512) (h : r.val < 128 * k.val) :
    outv (F := Ideal) k x0 y (ix2 r j) = (∑ q : Fin 7168, x0 (ix2 r q) * y (ix2 q j) : EReal) := by
  have hc := pieces_cover k x0 y (ix2 r j)
  have hk5 : k = 0 ∨ k = 1 ∨ k = 2 ∨ k = 3 ∨ k = 4 := by clear hc h; revert k; decide
  unfold outv
  rw [View.read_writes_junk_eq_canon]
  rcases hk5 with rfl | rfl | rfl | rfl | rfl
  · exact absurd h (by simp)
  all_goals
    unfold pieces at hc ⊢
    dsimp only at hc ⊢
    norm_num at h
    canon_tiles x hx using hc
  all_goals
    clear hc
    replace hx0 : r.val = _ := hx0
    replace hx1 : j.val = _ := hx1
    first
    | (exfalso; omega)
    | (obtain ⟨p, q, rfl⟩ : ∃ p q, x = ix2 p q := ⟨x 0, x 1, by funext a; fin_cases a <;> rfl⟩
       obtain rfl : r = ⟨p.val, Nat.lt_of_lt_of_le p.isLt (by decide)⟩ := Fin.ext hx0
       obtain rfl : j = q := Fin.ext hx1
       clear hx0 hx1 x0_lt x1_lt h
       open_payloads
       pointwise)

/-- One entry of the whole product: the row's tile names the expert. -/
def Y (X : S24576x7168.Idx → EReal) (W : S1x8x7168x2048.Idx → EReal) (e : Fin 8) (r : Fin 24576) (j : Fin 2048) : EReal :=
  ∑ q : Fin 7168, X (ix2 r q) * W (ix4 0 e q j)

variable (T0 T1 T2 : S24.Idx → BitVec 32) (hg : Good T0 T1 T2) (m : (ℓ : Loc nD τ sig) → Buf (Elt Ideal) ℓ) (ρ : Dev nD → PrngReg)

/-- The row block of a point: its second coordinate. -/
theorem ix_0 (i : grid0.Coords) : cc0_transform_0 i = ![(i 1).val, 0] := by
  have h : ∀ i : grid0.Coords, (BitVec.ofNat 32 (i 1).val).toNat = (i 1).val := by decide +kernel
  show ![(BitVec.ofNat 32 (i 1).val).toNat, 0] = _
  rw [h]
/-- The output's block: the half tile's rows, the point's columns. -/
theorem ix_2 (i : grid0.Coords) : cc0_transform_2 i = ![(i 1).val, (i 0).val] := by
  have h : ∀ i : grid0.Coords, (BitVec.ofNat 32 (i 1).val).toNat = (i 1).val ∧ (BitVec.ofNat 32 (i 0).val).toNat = (i 0).val := by decide +kernel
  show ![(BitVec.ofNat 32 (i 1).val).toNat, (BitVec.ofNat 32 (i 0).val).toNat] = _
  rw [(h i).1, (h i).2]

/-- The row block of a point, in the array's coordinates. -/
theorem iblk0_at (c : Dev nD) (t : Fin (cfgA (F := Ideal) T0 T1 T2 hg).N) (r : Fin 512) (q : Fin 7168) (i : Fin 24576) (hi : i.val = 512 * (t.val % 48) + r.val) :
    (iblk T0 T1 T2 hg m ρ c (0 : Fin 3) t : S512x7168.Idx → EReal) (ix2 r q) = (m ((c : Thread nD τ).loc main_arg0) : S24576x7168.Idx → EReal) (ix2 i q) := by
  have h := (crd_val t).2
  have hx : ((cfgA T0 T1 T2 hg).win (0 : Fin 3)).index t = ![(grid0.coords t 1).val, 0] := ix_0 _
  show m ((c : Thread nD τ).loc main_arg0) _ = m ((c : Thread nD τ).loc main_arg0) _
  refine congrArg _ (funext fun a => Fin.ext ?_)
  show ((cfgA T0 T1 T2 hg).win (0 : Fin 3)).index t a * _ + 1 * _ = _
  rw [hx]
  fin_cases a
  · show (grid0.coords t 1).val * 512 + 1 * r.val = i.val
    omega
  · show 0 * 7168 + 1 * q.val = q.val
    omega
/-- The kept weight, in the weight array's coordinates. -/
theorem yv_at (c : Dev nD) (t : Fin (cfgA (F := Ideal) T0 T1 T2 hg).N) (q : Fin 7168) (j : Fin 512) (e : Fin 8) (he : e.val = (T0 (ix1 (tile (F := Ideal) T0 T1 T2 hg t))).toNat) (i : Fin 2048) (hi : i.val = 512 * (t.val / 48) + j.val) :
    (yv T0 T1 T2 hg m ρ c t : S7168x512.Idx → EReal) (ix2 q j) = (m ((c : Thread nD τ).loc main_arg1) : S1x8x7168x2048.Idx → EReal) (ix4 0 e q i) := by
  have h := (crd_val t).1
  have hx : ((cfgA T0 T1 T2 hg).win (1 : Fin 3)).index t = ![0, e.val, 0, (grid0.coords t 0).val] := by rw [he]; exact ix_1 T0 T1 T2 _
  unfold yv k0_pay1
  pointwise
  show m ((c : Thread nD τ).loc main_arg1) _ = m ((c : Thread nD τ).loc main_arg1) _
  refine congrArg _ (funext fun a => Fin.ext ?_)
  show ((cfgA T0 T1 T2 hg).win (1 : Fin 3)).index t a * _ + 1 * _ = _
  rw [hx]
  fin_cases a
  · rfl
  · show e.val * 1 + 1 * 0 = e.val
    omega
  · show 0 * 7168 + 1 * q.val = q.val
    omega
  · show (grid0.coords t 0).val * 512 + 1 * j.val = i.val
    omega

/-- The output blocks tile the array. -/
theorem covers2 : ((cfgA (F := Ideal) T0 T1 T2 hg).win (2 : Fin 3)).Covers := by
  have h : ∀ (a : Fin 48) (b : Fin 4), ∃ t : Fin grid0.N, (grid0.coords t 1).val = a.val ∧ (grid0.coords t 0).val = b.val := by decide +kernel
  refine ⟨fun a => ?_, fun β => ?_⟩
  · fin_cases a <;> exact Nat.zero_lt_succ _
  · have n0 : ((cfgA (F := Ideal) T0 T1 T2 hg).win (2 : Fin 3)).nblk (0 : Fin 2) = 48 := by show (24576 + 512 - 1) / 512 = 48; decide
    have n1 : ((cfgA (F := Ideal) T0 T1 T2 hg).win (2 : Fin 3)).nblk (1 : Fin 2) = 4 := by show (2048 + 512 - 1) / 512 = 4; decide
    obtain ⟨t, ha, hb⟩ := h ⟨(β (0 : Fin 2)).val, n0 ▸ (β (0 : Fin 2)).isLt⟩ ⟨(β (1 : Fin 2)).val, n1 ▸ (β (1 : Fin 2)).isLt⟩
    refine ⟨t, flush2 T0 T1 T2 hg t, fun a => ⟨?_, Or.inl rfl⟩⟩
    show cc0_transform_2 (grid0.coords t) a = _
    rw [ix_2]
    fin_cases a
    · exact ha
    · exact hb

/-- The rows the mask selects are rows the tile's count covers. -/
theorem rows_of_mask (X : S24576x7168.Idx → Elt Ideal .bf16) (W : S1x8x7168x2048.Idx → Elt Ideal .f32) (htr : ∀ j : Fin 24, (T2 (ix1 j)).toNat ≤ 1024)
    (r : Fin 24576) (j : Fin 2048) (h : Cert.On_rows_down.fn (F := Ideal) X W T0 T1 T2 (ix2 r j) = 1#1) : r.val % 1024 < (T2 (ix1 ⟨r.val / 1024, by omega⟩)).toNat := by
  revert h; unfold Cert.On_rows_down.fn
  pointwise
  intro h
  have hw := htr ⟨r.val / 1024, by omega⟩
  generalize T2 (ix1 ⟨r.val / 1024, by omega⟩) = w at h hw ⊢
  have hk : r.val % 1024 < 1024 := Nat.mod_lt _ (by decide)
  generalize r.val % 1024 = k at h hk ⊢
  have h := ofBool_eq_one h
  have h : (BitVec.ofNat 32 k).toInt < w.toInt := of_decide_eq_true h
  have e1 : (BitVec.ofNat 32 k).toInt = (k : Int) := by
    rw [BitVec.toInt_eq_toNat_of_lt (by rw [BitVec.toNat_ofNat]; omega), BitVec.toNat_ofNat]; omega
  rw [e1, BitVec.toInt_eq_toNat_of_lt (by omega)] at h
  omega

/-- Where the count covers its row, an entry the kernel leaves is the whole product's. -/
theorem final_at (c : Dev nD) (r : Fin 24576) (j : Fin 2048) (e : Fin 8) (he : e.val = (T0 (ix1 ⟨r.val / 1024, by omega⟩)).toNat)
    (hr : r.val % 1024 < (T2 (ix1 ⟨r.val / 1024, by omega⟩)).toNat) :
    ((dats T0 T1 T2 hg m ρ 0 c).arrAt (2 : Fin 3) (cfgA (F := Ideal) T0 T1 T2 hg).N : S24576x2048.Idx → EReal) (ix2 r j)
      = Y (m ((c : Thread nD τ).loc main_arg0)) (m ((c : Thread nD τ).loc main_arg1)) e r j := by
  refine (dats T0 T1 T2 hg m ρ 0 c).arrAt_forall_of_covers (2 : Fin 3) (fun i v => i = (ix2 r j : S24576x2048.Idx) → (v : EReal) = Y (m ((c : Thread nD τ).loc main_arg0)) (m ((c : Thread nD τ).loc main_arg1)) e r j)
    (covers2 T0 T1 T2 hg) (fun t hf y hy => ?_) (ix2 r j) (Memref.isWhole_whole _) rfl
  obtain ⟨ca, cb⟩ := crd_val t
  obtain ⟨p, q, rfl⟩ : ∃ (p q : Fin 512), y = (ix2 p q : S512x512.Idx) := ⟨y (0 : Fin 2), y (1 : Fin 2), by funext a; fin_cases a <;> rfl⟩
  have h0 : r.val = 512 * (t.val % 48) + p.val := by
    have := congrArg (fun i : S24576x2048.Idx => (i 0).val) hy
    have this : cc0_transform_2 (grid0.coords t) 0 * 512 + 1 * p.val = r.val := this
    rw [ix_2] at this
    have this : (grid0.coords t 1).val * 512 + 1 * p.val = r.val := this
    omega
  have h1 : j.val = 512 * (t.val / 48) + q.val := by
    have := congrArg (fun i : S24576x2048.Idx => (i 1).val) hy
    have this : cc0_transform_2 (grid0.coords t) 1 * 512 + 1 * q.val = j.val := this
    rw [ix_2] at this
    have this : (grid0.coords t 0).val * 512 + 1 * q.val = j.val := this
    omega
  have hp := p.isLt
  have et : (⟨r.val / 1024, by omega⟩ : Fin 24) = tile (F := Ideal) T0 T1 T2 hg t := Fin.ext (by show r.val / 1024 = (grid0.coords t 1).val / 2; omega)
  rw [et] at he hr
  show (after2 T0 T1 T2 hg m ρ c t : S512x512.Idx → EReal) (ix2 p q) = _
  unfold after2
  refine (outv_at _ _ _ p q ?_).trans ?_
  · have hle := hg.tr (tile (F := Ideal) T0 T1 T2 hg t)
    generalize T2 (ix1 (tile (F := Ideal) T0 T1 T2 hg t)) = w at hr hle
    show p.val < 128 * (((min 512 (w.toNat - 512 * ((grid0.coords t 1).val % 2)) + 127) / 128) % 5)
    rw [cb]
    have hs : r.val % 1024 = 512 * (t.val % 48 % 2) + p.val := by omega
    have hm : t.val % 48 % 2 < 2 := Nat.mod_lt _ (by decide)
    generalize t.val % 48 % 2 = s at hs hm ⊢
    omega
  · unfold Y
    exact Finset.sum_congr rfl fun s _ => congrArg₂ (· * ·) (iblk0_at T0 T1 T2 hg m ρ c t p s r h0) (yv_at T0 T1 T2 hg m ρ c t s q e he j h1)

end Cert.Kernel3Ideal.Down
end
-- ==== Proof.DRef.lean ====
/- Hand-written: the mixture's second half as the reference computes it, entry by entry. -/
module

public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.StableHlo
open scoped BigOperators

namespace Cert.Reference3Ideal.Down
open Cert.Reference3Ideal Cert.Reference3Ideal.Gen Cert.Reference3Ideal.Value

variable (m : (ℓ : Loc nD τ sig) → Buf (Elt Ideal) ℓ) (c : Dev nD)

/-- One expert's product at an entry. -/
def dotE (X : S24576x7168.Idx → EReal) (W : S1x8x7168x2048.Idx → EReal) (e : Fin 8) (r : Fin 24576) (j : Fin 2048) : EReal :=
  ∑ q : Fin 7168, X (ix2 r q) * W (ix4 0 e q j)

/-- The same, of the arrays the reference is given. -/
def term (e : Fin 8) (r : Fin 24576) (j : Fin 2048) : EReal := dotE (m ((c.tc : Thread nD τ).loc main_arg0)) (m ((c.tc : Thread nD τ).loc main_arg1)) e r j

/-- A product where the row's word is the expert's, nothing elsewhere. -/
def pick (w : BitVec 32) (e : Fin 8) (r : Fin 24576) (j : Fin 2048) : EReal :=
  Scalar.select (IntOp.cmpi .eq w (BitVec.ofNat 32 e.val)) (term m c e r j) 0

set_option maxHeartbeats 4000000 in
/-- The output at an entry is the sum of the experts' picks. -/
theorem out_at (r : Fin 24576) (j : Fin 2048) (w : BitVec 32) (hw : (m ((c.tc : Thread nD τ).loc main_arg2) : S24.Idx → BitVec 32) (ix1 ⟨r.val / 1024, by omega⟩) = w) :
    (res_main_v60 m c : S24576x2048.Idx → EReal) (ix2 r j)
      = pick m c w 0 r j + pick m c w 1 r j + pick m c w 2 r j + pick m c w 3 r j + pick m c w 4 r j + pick m c w 5 r j + pick m c w 6 r j + pick m c w 7 r j := by
  have hz : (id (constant (F := Ideal) S_ FTy.f32 0#32) Idealize.ShloMosaic.ix0 : EReal) = 0 := Ideal.ofBits_zero_f32
  unfold res_main_v60
  pointwise
  rw [hw]
  rw [hz]
  rfl

/-- A pick is its term at its own word, and zero elsewhere. -/
theorem pick_if (d e : Fin 8) (r : Fin 24576) (j : Fin 2048) : pick m c (BitVec.ofNat 32 d.val) e r j = if d = e then term m c d r j else 0 := by
  unfold pick
  by_cases h : d = e
  · subst h
    have h : IntOp.cmpi .eq (BitVec.ofNat 32 d.val) (BitVec.ofNat 32 d.val) = 1#1 := by revert d; decide
    rw [h, if_pos rfl]; rfl
  · have h' : IntOp.cmpi .eq (BitVec.ofNat 32 d.val) (BitVec.ofNat 32 e.val) = 0#1 := by revert d e; decide
    rw [h', if_neg h]; rfl

/-- The output at an entry is the product with the weight of the row's expert. -/
theorem ref_at (r : Fin 24576) (j : Fin 2048) (e : Fin 8) (he : e.val = ((m ((c.tc : Thread nD τ).loc main_arg2) : S24.Idx → BitVec 32) (ix1 ⟨r.val / 1024, by omega⟩)).toNat) :
    (res_main_v60 m c : S24576x2048.Idx → EReal) (ix2 r j) = term m c e r j := by
  rw [out_at m c r j (BitVec.ofNat 32 e.val) (by rw [he, BitVec.ofNat_toNat, BitVec.setWidth_eq])]
  simp only [pick_if]
  generalize term m c e r j = x
  revert e
  intro e _
  fin_cases e <;> simp

end Cert.Reference3Ideal.Down

end
-- ==== Proof.DEq.lean ====
/- Hand-written: the mixture's second half, kernel against reference, and the frames of its programs. -/
module

public import proofs.«01_k».proof.Defs
public import proofs.«01_k».proof.Proof.DVal
public import proofs.«01_k».proof.Proof.DRef
public import proofs.«01_k».proof.Proof.Gen.Kernel3
public import Idealize.ShloMosaic.Adequacy
public import Idealize.ShloMosaic.Init

@[expose] public section

set_option maxRecDepth 16384

noncomputable section

open Idealize.ShloMosaic Idealize.ShloMosaic.TcCoe Idealize.SL.Sem

namespace Cert.Proof

/-- The kernel ends with its arguments as they were and its counters at zero, at the algebra. -/
theorem frame_downIdeal : Cert.quiescent_Kernel3Ideal := fun m ρ hpre =>
  Cert.Kernel3Ideal.Down.frame _ _ _ (Cert.Kernel3Ideal.Down.good_down _ _ _ _ _ (hpre 0)) m ρ
    ⟨fun c => by rw [Subsingleton.elim c 0], fun c => by rw [Subsingleton.elim c 0], fun c => by rw [Subsingleton.elim c 0]⟩

/-- The two programs of the kernel define one body, over any float values. -/
theorem defs_down_eq {F : FTy → Type} [FloatOps F] : Cert.Kernel3.defs (F := F) = Cert.Kernel3Ideal.defs (F := F) := by
  have h : Cert.Kernel3.defs₀ (F := F) = Cert.Kernel3Ideal.defs₀ (F := F) := by
    unfold Cert.Kernel3.defs₀ Cert.Kernel3Ideal.defs₀
    refine congrArg (Defs.onTc (nD := Cert.Kernel3.nD) (τ := Cert.Kernel3.τ) (sig := Cert.Kernel3.sig) (Λ := Cert.Kernel3.Λ₀)) (funext fun l => ?_)
    obtain rfl : l = 0 := Subsingleton.elim _ _
    rfl
  unfold Cert.Kernel3.defs Cert.Kernel3Ideal.defs
  exact congrArg (Pipeline.defs _) h

/-- The same over the bit patterns: the one run, at other values. -/
theorem frame_down : Cert.quiescent_Kernel3 := fun m ρ hpre => by
  rw [defs_down_eq]
  exact Cert.Kernel3Ideal.Down.frame (F := Bits) _ _ _ (Cert.Kernel3Ideal.Down.good_down _ _ _ _ _ (hpre 0)) m ρ
    ⟨fun c => by rw [Subsingleton.elim c 0], fun c => by rw [Subsingleton.elim c 0], fun c => by rw [Subsingleton.elim c 0]⟩

/-- The reference of the second half ends and leaves its arguments as they were. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- On one device's arrays: where the mask holds, the kernel's entry is the reference's. -/
theorem same_down (T0 T1 T2 : Cert.Kernel3Ideal.S24.Idx → BitVec 32) (hg : Cert.Kernel2Ideal.Moe.Good T0 T1 T2)
    (m : (ℓ : Loc Cert.Kernel3Ideal.nD Cert.Kernel3Ideal.τ Cert.Kernel3Ideal.sig) → Buf (Elt Ideal) ℓ) (ρ : Dev Cert.Kernel3Ideal.nD → PrngReg)
    (m' : (ℓ : Loc Cert.Reference3Ideal.nD Cert.Reference3Ideal.τ Cert.Reference3Ideal.sig) → Buf (Elt Ideal) ℓ) (c : Dev Cert.Kernel3Ideal.nD)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (e2 : m' ((c.tc : Thread Cert.Reference3Ideal.nD Cert.Reference3Ideal.τ).loc Cert.Reference3Ideal.main_arg2) = T0)
    (X : Cert.Kernel3Ideal.S24576x7168.Idx → Elt Ideal .bf16) (W : Cert.Kernel3Ideal.S1x8x7168x2048.Idx → Elt Ideal .f32)
    (i : Cert.Kernel3Ideal.S24576x2048.Idx) (h : Cert.On_rows_down.fn (F := Ideal) X W T0 T1 T2 i = 1#1) :
    (Cert.Reference3Ideal.Value.res_main_v60 m' c : Cert.Kernel3Ideal.S24576x2048.Idx → EReal) i
      = ((Cert.Kernel3Ideal.Down.dats T0 T1 T2 hg m ρ 0 c).arrAt (2 : Fin 3) (Cert.Kernel3Ideal.Down.cfgA (F := Ideal) T0 T1 T2 hg).N : Cert.Kernel3Ideal.S24576x2048.Idx → EReal) i := by
  obtain ⟨r, j, rfl⟩ : ∃ (r : Fin 24576) (j : Fin 2048), i = ix2 r j := ⟨i 0, i 1, by funext a; fin_cases a <;> rfl⟩
  have hr := Cert.Kernel3Ideal.Down.rows_of_mask T0 T1 T2 X W hg.tr r j h
  have he := hg.te ⟨r.val / 1024, by omega⟩
  refine (Cert.Reference3Ideal.Down.ref_at m' c r j ⟨_, he⟩ ?_).trans (Eq.trans (b := Cert.Kernel3Ideal.Down.Y (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) ⟨_, he⟩ r j) ?_ (Cert.Kernel3Ideal.Down.final_at T0 T1 T2 hg m ρ c r j ⟨_, he⟩ rfl hr).symm)
  · rw [e2]
  · show Cert.Kernel3Ideal.Down.Y (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) _ r j = _
    rw [e0, e1]

/-- On the same inputs, wherever the mask holds, the kernel's result is the reference's. -/
theorem value_down : Cert.algebraic_Kernel3Ideal_Reference3Ideal_on_rows_down := by
  intro m g m' g' hpre hargs
  have hg := Cert.Kernel3Ideal.Down.good_down _ _ _ _ _ (hpre 0)
  refine ⟨fun c => Cert.Reference3Ideal.Value.res_main_v60 m' c, ?_, ?_⟩
  · refine (θ_run _ _ _).mono (fun r h c => ?_) (Cert.Kernel3Ideal.Down.run_values _ _ _ hg m g
      ⟨fun c => by rw [Subsingleton.elim c 0], fun c => by rw [Subsingleton.elim c 0], fun c => by rw [Subsingleton.elim c 0]⟩)
    obtain ⟨hv, ha⟩ := h.1 c
    refine ⟨fun i hi => ?_, ha⟩
    obtain rfl : c = 0 := Subsingleton.elim c 0
    obtain ⟨e0, e1, e2, -, -⟩ := hargs 0
    exact (congrFun hv i).trans (same_down _ _ _ hg m g m' 0 e0 e1 e2 _ _ i hi).symm
  · refine (θ_run _ _ _).mono (fun r h c => ?_) (Cert.Reference3Ideal.Value.run m' g')
    obtain ⟨hv, ha⟩ := h c
    exact ⟨fun i _ => congrFun hv i, ha⟩

end Cert.Proof

end
-- ==== Proof.lean ====
/- The certificate of one step of the gated recurrence and of the mixture's two halves: frames from the generated modules, MEq.lean and
   DEq.lean, the value claims from HEq.lean, MEq.lean and DEq.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_numbers_finite
public import proofs.«01_k».proof.Proof.HEq
public import proofs.«01_k».proof.Proof.MEq
public import proofs.«01_k».proof.Proof.DEq
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tables_laid
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_tables_down
public import proofs.«01_k».proof.Proof.Gen.On_rows_down
public import proofs.«01_k».proof.Proof.Gen.On_rows_used
public import Idealize.ShloMosaic.Adequacy
public import Idealize.ShloMosaic.Init

@[expose] public section

noncomputable section

namespace Cert.Proof

open Idealize.ShloMosaic Idealize.SL.Sem

/-- The reference ends, leaves its arguments as they were, and has no semaphore that could be left up. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Everything the certificate states. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_numbers_finite.Gen.facts, Cert.Pre_tables_laid.Gen.facts, Cert.Pre_tables_down.Gen.facts, Cert.On_rows_used.Gen.facts, Cert.On_rows_down.Gen.facts, fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  frame_mixture, frame_mixtureIdeal, frame_reference2, fun m ρ _ => frame_reference2 m ρ trivial,
  frame_down, frame_downIdeal, frame_reference3, fun m ρ _ => frame_reference3 m ρ trivial,
  trivial, value, trivial, value_mixture, trivial, value_down⟩

end Cert.Proof

end
